-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_plane_finite [hPre_first_plane_finite : Cert.Pre_first_plane_finite.Facts] (m : (ℓ : Loc Cert.KernelIdeal.nD Cert.KernelIdeal.τ Cert.KernelIdeal.sig) → Buf (Elt Ideal) ℓ) : Prop :=
  ∀ c : Dev Cert.KernelIdeal.nD,
    (Cert.Pre_first_plane_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_plane_finite [hPre_first_plane_finite : Cert.Pre_first_plane_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_plane_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_first_plane_finite [hKernelIdeal : Cert.KernelIdeal.Facts] [hPre_first_plane_finite : Cert.Pre_first_plane_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_plane_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_first_plane_finite [hReferenceIdeal : Cert.ReferenceIdeal.Facts] [hPre_first_plane_finite : Cert.Pre_first_plane_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_plane_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_first_plane_finite [hKernelIdeal : Cert.KernelIdeal.Facts] [hReferenceIdeal : Cert.ReferenceIdeal.Facts] [hPre_first_plane_finite : Cert.Pre_first_plane_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_plane_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_first_plane_finite : Cert.Pre_first_plane_finite.Facts),
    quiescent_Kernel (hKernel := hKernel)
    ∧ quiescent_KernelIdeal (hKernelIdeal := hKernelIdeal)
    ∧ quiescent_KernelIdeal_pre_first_plane_finite (hKernelIdeal := hKernelIdeal) (hPre_first_plane_finite := hPre_first_plane_finite)
    ∧ quiescent_ReferenceIdeal (hReferenceIdeal := hReferenceIdeal)
    ∧ quiescent_ReferenceIdeal_pre_first_plane_finite (hReferenceIdeal := hReferenceIdeal) (hPre_first_plane_finite := hPre_first_plane_finite)
    ∧ preserves_Kernel_KernelIdeal
    ∧ algebraic_KernelIdeal_ReferenceIdeal_pre_first_plane_finite (hKernelIdeal := hKernelIdeal) (hReferenceIdeal := hReferenceIdeal) (hPre_first_plane_finite := hPre_first_plane_finite)
-- ==== Pre_first_plane_finite.lean ====
abbrev S256x256x256 : Shape := ⟨3, ![256, 256, 256]⟩
abbrev S1x256x256 : Shape := ⟨3, ![1, 256, 256]⟩
abbrev S_ : Shape := ⟨0, ![]⟩

class Facts : Prop where
  slices_S256x256x256_S1x256x256_0_0_0 : S256x256x256.Slices ![0, 0, 0] S1x256x256
  bcast_S_S1x256x256 : S_.BroadcastsInDim S1x256x256 (![] : Fin 0 → Fin S1x256x256.rank)

variable [Facts]

def fn {F : FTy → Type} [FloatOps F] (main_arg0 : FVec F S256x256x256 .f32) : IVec S1x256x256 1 :=
  let main_v0 : FVec F S1x256x256 .f32 := (extractStridedSlice S1x256x256 ![0, 0, 0] · slices_S256x256x256_S1x256x256_0_0_0) main_arg0
  let main_v1 : FVec F S1x256x256 .f32 := Host.absf main_v0
  let main_cst : FVec F S_ .f32 := constant S_ .f32 0x7F800000#32
  let main_v2 : FVec F S1x256x256 .f32 := broadcastInDim S1x256x256 ![] bcast_S_S1x256x256 main_cst
  let main_v3 : IVec S1x256x256 1 := cmpf .olt main_v1 main_v2
  main_v3
-- ==== Kernel.lean ====
abbrev S256x256x256 : Shape := ⟨3, ![256, 256, 256]⟩
abbrev S3x256x256x256 : Shape := ⟨4, ![3, 256, 256, 256]⟩
abbrev S16x256x256 : Shape := ⟨3, ![16, 256, 256]⟩
abbrev S1x256x256 : Shape := ⟨3, ![1, 256, 256]⟩
abbrev S3x16x256x256 : Shape := ⟨4, ![3, 16, 256, 256]⟩
abbrev S14x256x256 : Shape := ⟨3, ![14, 256, 256]⟩
abbrev S1x14x256x256 : Shape := ⟨4, ![1, 14, 256, 256]⟩
abbrev S1x1x256x256 : Shape := ⟨4, ![1, 1, 256, 256]⟩
abbrev S8x256x256 : Shape := ⟨3, ![8, 256, 256]⟩
abbrev S8x1x256 : Shape := ⟨3, ![8, 1, 256]⟩
abbrev S8x255x256 : Shape := ⟨3, ![8, 255, 256]⟩
abbrev S1x8x256x256 : Shape := ⟨4, ![1, 8, 256, 256]⟩
abbrev S8x256x1 : Shape := ⟨3, ![8, 256, 1]⟩
abbrev S8x256x255 : Shape := ⟨3, ![8, 256, 255]⟩
abbrev S256x256 : Shape := ⟨2, ![256, 256]⟩

abbrev nBuf : Space → Nat
  | .hbm => 2
  | .vmem => 7
  | .smem => 0
  | _ => 0

abbrev bufTy : (tb : Table) → Fin (tcTables nBuf tb) → BufTy
  | .hbm, ⟨0, _⟩ => ⟨S256x256x256, .f32⟩
  | .hbm, ⟨1, _⟩ => ⟨S3x256x256x256, .f32⟩
  | .local _ .vmem, ⟨0, _⟩ => ⟨S16x256x256, .f32⟩
  | .local _ .vmem, ⟨1, _⟩ => ⟨S16x256x256, .f32⟩
  | .local _ .vmem, ⟨2, _⟩ => ⟨S1x256x256, .f32⟩
  | .local _ .vmem, ⟨3, _⟩ => ⟨S1x256x256, .f32⟩
  | .local _ .vmem, ⟨4, _⟩ => ⟨S3x16x256x256, .f32⟩
  | .local _ .vmem, ⟨5, _⟩ => ⟨S3x16x256x256, .f32⟩
  | .local _ .vmem, ⟨6, _⟩ => ⟨S1x256x256, .f32⟩
  | _, _ => ⟨S256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v30 : BitVec 32 := Scalar.addi c0_i32 c2_i32
  let c1_i32 : BitVec 32 := 1#32
  ⟨c0_i32, v30, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32 : BitVec 32 := 8#32
  let v37 : BitVec 32 := Scalar.muli arg5 c8_i32
  let v38 : Index := Scalar.indexCast v37
  let c0_41 : Index := 0#32
  let c0_42 : Index := 0#32
  ![v38.toNat, 0, 0]
def k0_off2 (k0_t1 : Fin k0_t1_loop.trips) : Fin 4 → Nat :=
  let c1_47 : Index := 1#32
  let c0_i32 : BitVec 32 := 0#32
  let c1_i32 : BitVec 32 := 1#32
  let arg5 : BitVec 32 := Scf.iv c0_i32 c1_i32 k0_t1
  let c8_i32 : BitVec 32 := 8#32
  let v37 : BitVec 32 := Scalar.muli arg5 c8_i32
  let v61 : Index := Scalar.indexCast v37
  let c0_48 : Index := 0#32
  let c0_49 : Index := 0#32
  ![1, v61.toNat, 0, 0]
def k0_off3 (k0_t1 : Fin k0_t1_loop.trips) : Fin 4 → Nat :=
  let c2_54 : Index := 2#32
  let c0_i32 : BitVec 32 := 0#32
  let c1_i32 : BitVec 32 := 1#32
  let arg5 : BitVec 32 := Scf.iv c0_i32 c1_i32 k0_t1
  let c8_i32 : BitVec 32 := 8#32
  let v37 : BitVec 32 := Scalar.muli arg5 c8_i32
  let v84 : Index := Scalar.indexCast v37
  let c0_55 : Index := 0#32
  let c0_56 : Index := 0#32
  ![2, v84.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.addi v0 c16_i32_0
  let c255_i32 : BitVec 32 := 255#32
  let v2 : BitVec 32 := Scalar.minsi v1 c255_i32
  let c0_i32 : BitVec 32 := 0#32
  let c0_i32_1 : BitVec 32 := 0#32
  let c0_i32_2 : BitVec 32 := 0#32
  ![v2.toNat, c0_i32.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S256x256x256 : Shape := ⟨3, ![256, 256, 256]⟩
abbrev S_ : Shape := ⟨0, ![]⟩
abbrev S255x256x256 : Shape := ⟨3, ![255, 256, 256]⟩
abbrev S1x256x256 : Shape := ⟨3, ![1, 256, 256]⟩
abbrev S256x256 : Shape := ⟨2, ![256, 256]⟩
abbrev S256x255x256 : Shape := ⟨3, ![256, 255, 256]⟩
abbrev S256x1x256 : Shape := ⟨3, ![256, 1, 256]⟩
abbrev S256x256x255 : Shape := ⟨3, ![256, 256, 255]⟩
abbrev S256x256x1 : Shape := ⟨3, ![256, 256, 1]⟩
abbrev S1x256x256x256 : Shape := ⟨4, ![1, 256, 256, 256]⟩
abbrev S3x256x256x256 : Shape := ⟨4, ![3, 256, 256, 256]⟩

abbrev nBuf : Space → Nat
  | .hbm => 105
  | .vmem => 0
  | .smem => 0
  | _ => 0

abbrev bufTy : (tb : Table) → Fin (tcTables nBuf tb) → BufTy
  | .hbm, ⟨0, _⟩ => ⟨S256x256x256, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S255x256x256, .f32⟩
  | .hbm, ⟨9, _⟩ => ⟨S1x256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S1x256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S1x256x256, .f32⟩
  | .hbm, ⟨21, _⟩ => ⟨S256x256x256, .f32⟩
  | .hbm, ⟨22, _⟩ => ⟨S1x256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S1x256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S1x256x256, .f32⟩
  | .hbm, ⟨34, _⟩ => ⟨S255x256x256, .f32⟩
  | .hbm, ⟨35, _⟩ => ⟨S256x256x256, .f32⟩
  | .hbm, ⟨36, _⟩ => ⟨S256x256x256, .f32⟩
  | .hbm, ⟨37, _⟩ => ⟨S256x256x256, .f32⟩
  | .hbm, ⟨38, _⟩ => ⟨S256x256x256, .f32⟩
  | .hbm, ⟨39, _⟩ => ⟨S256x255x256, .f32⟩
  | .hbm, ⟨40, _⟩ => ⟨S256x1x256, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S256x1x256, .f32⟩
  | .hbm, ⟨46, _⟩ => ⟨S256x256, .f32⟩
  | .hbm, ⟨47, _⟩ => ⟨S256x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x1x256, .f32⟩
  | .hbm, ⟨52, _⟩ => ⟨S256x256x256, .f32⟩
  | .hbm, ⟨53, _⟩ => ⟨S256x1x256, .f32⟩
  | .hbm, ⟨54, _⟩ => ⟨S256x256, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x1x256, .f32⟩
  | .hbm, ⟨59, _⟩ => ⟨S256x256, .f32⟩
  | .hbm, ⟨60, _⟩ => ⟨S256x256, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S256x1x256, .f32⟩
  | .hbm, ⟨65, _⟩ => ⟨S256x255x256, .f32⟩
  | .hbm, ⟨66, _⟩ => ⟨S256x256x256, .f32⟩
  | .hbm, ⟨67, _⟩ => ⟨S256x256x256, .f32⟩
  | .hbm, ⟨68, _⟩ => ⟨S256x256x256, .f32⟩
  | .hbm, ⟨69, _⟩ => ⟨S256x256x256, .f32⟩
  | .hbm, ⟨70, _⟩ => ⟨S256x256x255, .f32⟩
  | .hbm, ⟨71, _⟩ => ⟨S256x256x1, .f32⟩
  | .hbm, ⟨72, _⟩ => ⟨S256x256, .f32⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S256x256x1, .f32⟩
  | .hbm, ⟨77, _⟩ => ⟨S256x256, .f32⟩
  | .hbm, ⟨78, _⟩ => ⟨S256x256, .f32⟩
  | .hbm, ⟨79, _⟩ => ⟨S_, .f32⟩
  | .hbm, ⟨80, _⟩ => ⟨S256x256, .f32⟩
  | .hbm, ⟨81, _⟩ => ⟨S256x256, .f32⟩
  | .hbm, ⟨82, _⟩ => ⟨S256x256x1, .f32⟩
  | .hbm, ⟨83, _⟩ => ⟨S256x256x256, .f32⟩
  | .hbm, ⟨84, _⟩ => ⟨S256x256x1, .f32⟩
  | .hbm, ⟨85, _⟩ => ⟨S256x256, .f32⟩
  | .hbm, ⟨86, _⟩ => ⟨S_, .f32⟩
  | .hbm, ⟨87, _⟩ => ⟨S256x256, .f32⟩
  | .hbm, ⟨88, _⟩ => ⟨S256x256, .f32⟩
  | .hbm, ⟨89, _⟩ => ⟨S256x256x1, .f32⟩
  | .hbm, ⟨90, _⟩ => ⟨S256x256, .f32⟩
  | .hbm, ⟨91, _⟩ => ⟨S256x256, .f32⟩
  | .hbm, ⟨92, _⟩ => ⟨S_, .f32⟩
  | .hbm, ⟨93, _⟩ => ⟨S256x256, .f32⟩
  | .hbm, ⟨94, _⟩ => ⟨S256x256, .f32⟩
  | .hbm, ⟨95, _⟩ => ⟨S256x256x1, .f32⟩
  | .hbm, ⟨96, _⟩ => ⟨S256x256x255, .f32⟩
  | .hbm, ⟨97, _⟩ => ⟨S256x256x256, .f32⟩
  | .hbm, ⟨98, _⟩ => ⟨S256x256x256, .f32⟩
  | .hbm, ⟨99, _⟩ => ⟨S256x256x256, .f32⟩
  | .hbm, ⟨100, _⟩ => ⟨S256x256x256, .f32⟩
  | .hbm, ⟨101, _⟩ => ⟨S1x256x256x256, .f32⟩
  | .hbm, ⟨102, _⟩ => ⟨S1x256x256x256, .f32⟩
  | .hbm, ⟨103, _⟩ => ⟨S1x256x256x256, .f32⟩
  | .hbm, ⟨104, _⟩ => ⟨S3x256x256x256, .f32⟩
  | _, _ => ⟨S256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_cst_1 : Ref sig .tc := ⟨.hbm, 4, rfl⟩
abbrev main_v1 : Ref sig .tc := ⟨.hbm, 5, rfl⟩
abbrev main_cst_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_4 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_7 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_8 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_9 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_10 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_11 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_12 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_13 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_14 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩

abbrev nD : Nat := 1
abbrev τ : Topo := Topo.v7x

variable {F : FTy → Type} [FloatOps F]
-- ==== Proof.KernelBody.lean ====
/- The kernel's body at any floats, with nothing said of what it computes: from any contents of the output block and of the
   scratch, it runs at any point, leaves its inputs in place, and leaves the output block and the scratch at some contents. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Grad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body corrects the first plane of its block. -/
abbrev atFirst (i : grid0.Coords) : Prop :=
  (Scalar.cmpi .ne (Scalar.extui (Scalar.cmpi .eq (BitVec.ofNat 32 (i 0).val) 0#32)) 0#32) = 1#1

/-- The condition under which the body corrects the last plane of its block. -/
abbrev atLast (i : grid0.Coords) : Prop :=
  (Scalar.cmpi .ne (Scalar.extui (Scalar.cmpi .eq (BitVec.ofNat 32 (i 0).val) 15#32)) 0#32) = 1#1

set_option maxHeartbeats 4000000 in
/-- The body at any point. -/
theorem body_runs (c : Dev nD) (i : grid0.Coords) (arg1 : Memref sig .tc .vmem S16x256x256 .f32) (harg1 : arg1.IsWhole)
    (arg2 : Memref sig .tc .vmem S1x256x256 .f32) (harg2 : arg2.IsWhole) (arg3 : Memref sig .tc .vmem S3x16x256x256 .f32)
    (harg3 : arg3.IsWhole) (arg4 : Memref sig .tc .vmem S1x256x256 .f32) (harg4 : arg4.IsWhole)
    (x0 : Vec F S16x256x256 .f32) (x1 : Vec F S1x256x256 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ (∃ d, owns (c : Thread nD τ) arg3 fullShare d) ∗ (∃ d, owns (c : Thread nD τ) arg4 fullShare d)) -∗ K ⟨⟩))
      ⊢ wp frame (wpE (defs₀ (F := F)) Variants.none c none) E (cc0__normals_body i arg1 harg1 arg2 harg2 arg3 harg3 arg4 harg4) K := by
  simp only [cc0__normals_body_eq_skeleton]; unfold cc0__normals_body_skel
  simp only [k0_part2_eq_skeleton]
  unfold owns
  by_cases hc0 : atFirst i <;> by_cases hc1 : atLast i
  all_goals
    iintro ⟨⟨%f0, %hf0, H0⟩, ⟨%f1, %hf1, H1⟩, ⟨%d2, %f2, -, H2⟩, ⟨%d3, %f3, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    iexists _, _; isplitr; swap; · iexact HS0
    ipureintro; rfl

end Cert.Kernel.Grad

end
-- ==== Proof.KernelFrame.lean ====
/- The kernel's frame at any floats: the grid runs to its end, the argument is unchanged and every semaphore counter is at zero.
   Nothing is said of the output, so its window is forgotten. -/
module

public import proofs.«01_k».proof.Proof.KernelBody
public import Idealize.ShloMosaic.Lib.Claim

@[expose] public section

set_option maxRecDepth 16384

noncomputable section

namespace Cert.Kernel.Grad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Beside its windows a point has the scratch at some contents and the generator. -/
theorem beside_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The one window of which nothing is said: the output's. -/
def unsaid : Fin 3 → Bool := fun w => w.val == 2

/-- The run's data: the arrays as launched, the inputs' blocks left in place, the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q w := Pipeline.shareOf spec0 w
  owed _ := 0

/-- The data's arrays are the launch's. -/
theorem dats_A (c : Dev nD) (w : Fin cfg0.W) : (dats m 0 c).A w = V m c (Pipeline.arrRef spec0 w) := by dsimp only [dats]
/-- The body leaves the loaded block in place. -/
theorem after_in (c : Dev nD) (t : Fin cfg0.N) : (dats m 0 c).after 0 t = iblk m c 0 t := by dsimp only [dats]
/-- The body leaves the plane after the block in place. -/
theorem after_next (c : Dev nD) (t : Fin cfg0.N) : (dats m 0 c).after 1 t = iblk m c 1 t := by dsimp only [dats]
/-- The body finds the loaded block. -/
theorem before_in (c : Dev nD) (t : Fin cfg0.N) (d) : (dats m 0 c).before 0 t d = iblk m c 0 t :=
  before0_0_of m (dats m 0 c) (dats_A m c 0) (after_in m c) t d
/-- The body finds the plane after the block. -/
theorem before_next (c : Dev nD) (t : Fin cfg0.N) (d) : (dats m 0 c).before 1 t d = iblk m c 1 t :=
  before0_1_of m (dats m 0 c) (dats_A m c 1) (after_next m c) t d

/-- What the body is called with at a point. -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare d))

/-- What the body returns at a point. -/
def returned (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (∃ d, owns (c : Thread nD τ) (win0_2.stage (cfg0.slots t 2)) fullShare d))

set_option maxHeartbeats 1200000 in
/-- The body at a point, from what it is given to what it returns. -/
theorem point_runs (c : Dev nD) (t : Fin cfg0.N) :
    given m c t ⊢ wp frame (wpE (defs₀ (F := F)) Variants.none c none) Set.univ (bodyAt0 t) (fun _ => returned m c t) := by
  unfold given returned bodyAt0
  simp only [before_in, before_next]
  rw [show (dats m 0 c).Φ t.succ = (dats m 0 c).Φ t.castSucc from rfl,
    show (dats m 0 c).owesAt () t.succ = (dats m 0 c).owesAt () t.castSucc from rfl, after_in, after_next,
    show (dats m 0 c).Φ t.castSucc = Pipeline.ΦA spec0 c from rfl, beside_eq]
  iintro ⟨⟨HS0, Hg⟩, Ho, ⟨%d0, H0⟩, ⟨%d1, H1⟩, ⟨%d2, H2⟩⟩
  iapply (body_runs c (grid0.coords t) _ _ _ _ _ _ _ _ (iblk m c 0 t) (iblk m c 1 t) Set.univ _)
  isplitl [H0]; · iexact H0
  isplitl [H1]; · iexact H1
  isplitl [H2]; · iexists _; iexact H2
  isplitl [HS0]; · iexact HS0
  iintro ⟨H0, H1, H2, HS0⟩
  isplitl [HS0 Hg]
  · isplitl [HS0]
    · iexact HS0
    iexact Hg
  isplitl [Ho]; · iexact Ho
  isplitl [H0]; · iexact H0
  isplitl [H1]; · iexact H1
  iexact H2

/-- The body table's row at a point is the body at the point. -/
theorem row_eq (t : Fin cfg0.N) : defs₀ (F := F) .tc cfg0.body (cfg0.bodyArgs t (cfg0.slots t)) = bodyAt0 t := by
  unfold defs₀; rw [Defs.onTc_tc]

/-- The body's obligation, at every point, the output forgotten. -/
theorem obligation (c : Dev nD) : BodyObligation (dats (F := F) m 0 c) (defs₀ (F := F)) Variants.none () Set.univ unsaid := fun t => by
  rw [bigSep_W0, bigSep_W0, row_eq]
  exact triple_restated (point_runs m c t) rfl .rfl fun _ => .rfl

set_option backward.isDefEq.respectTransparency.types false in
/-- The launch: every execution ends with the input array as launched and every semaphore counter at zero. -/
theorem run_all : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := dats_A m) (hΦ := fun _ _ => rfl)

/-- The kernel's frame: the argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (Pipeline.RDat.FramePost.arr_in h.1 c 1 rfl).trans
      ((dats_A m c 1).trans (V_main_arg0 m c)), h.2⟩) (run_all m ρ)

end Cert.Kernel.Grad

end
-- ==== Proof.Cube.lean ====
/- Rank-3 arrays read at natural-number coordinates: `at3 x i j k` is the element when the three coordinates are inside the
   array and 0 when one is not. A slice, a concatenation or an elementwise operation, read at an index, is then arithmetic on
   coordinates. -/
module

public import Idealize.ShloMosaic.Lib.ValueIdx
public import Idealize.ShloMosaic.Lib.Pipeline.Value

@[expose] public section

noncomputable section

namespace Cert.Cube

open Idealize.ShloMosaic

/-- The element of a rank-3 array at natural-number coordinates, 0 outside. -/
def at3 {n0 n1 n2 : ℕ} (x : (⟨3, ![n0, n1, n2]⟩ : Shape).Idx → EReal) (i j k : ℕ) : EReal :=
  if h : i < n0 ∧ j < n1 ∧ k < n2 then x (ValueIdx.ix3 ⟨i, h.1⟩ ⟨j, h.2.1⟩ ⟨k, h.2.2⟩) else 0

/-- An array read at an index is the array at the index's coordinates. -/
theorem eq_at3 {n0 n1 n2 : ℕ} (x : (⟨3, ![n0, n1, n2]⟩ : Shape).Idx → EReal) (y : (⟨3, ![n0, n1, n2]⟩ : Shape).Idx) :
    x y = at3 x (y 0).val (y 1).val (y 2).val := by
  unfold at3
  rw [dif_pos ⟨(y 0).isLt, (y 1).isLt, (y 2).isLt⟩]
  exact congrArg x (ValueIdx.eq_ix3 y)

/-- Inside the array, the element is that at the index built from the coordinates. -/
theorem at3_of_lt {n0 n1 n2 : ℕ} (x : (⟨3, ![n0, n1, n2]⟩ : Shape).Idx → EReal) {i j k : ℕ} (h0 : i < n0) (h1 : j < n1)
    (h2 : k < n2) : at3 x i j k = x (ValueIdx.ix3 ⟨i, h0⟩ ⟨j, h1⟩ ⟨k, h2⟩) := dif_pos ⟨h0, h1, h2⟩

/-- An index with the given coordinates reads the element at them. -/
theorem eq_at3_of {n0 n1 n2 : ℕ} (x : (⟨3, ![n0, n1, n2]⟩ : Shape).Idx → EReal) (y : (⟨3, ![n0, n1, n2]⟩ : Shape).Idx)
    {i j k : ℕ} (h0 : (y 0).val = i) (h1 : (y 1).val = j) (h2 : (y 2).val = k) : x y = at3 x i j k := by
  subst h0 h1 h2; exact eq_at3 x y

/-- Two arrays that agree index by index after a map of the elements. -/
theorem at3_map {n0 n1 n2 : ℕ} (f : EReal → EReal) (hf : f 0 = 0) (x z : (⟨3, ![n0, n1, n2]⟩ : Shape).Idx → EReal)
    (h : ∀ y, z y = f (x y)) (i j k : ℕ) : at3 z i j k = f (at3 x i j k) := by
  unfold at3
  split
  · exact h _
  · exact hf.symm

/-- A unit-stride slice at an index is the source at the index moved by the offsets. -/
theorem slice_at3 {n0 n1 n2 p0 p1 p2 : ℕ} (off : Fin 3 → ℕ) (x : (⟨3, ![n0, n1, n2]⟩ : Shape).Idx → EReal)
    (h : (⟨3, ![n0, n1, n2]⟩ : Shape).Slices off ⟨3, ![p0, p1, p2]⟩) (y : (⟨3, ![p0, p1, p2]⟩ : Shape).Idx) :
    extractStridedSlice ⟨3, ![p0, p1, p2]⟩ off x h y
      = at3 x (off 0 + (y 0).val) (off 1 + (y 1).val) (off 2 + (y 2).val) := by
  have b0 : off 0 + (y 0).val < n0 := Nat.lt_of_lt_of_le (Nat.add_lt_add_left (y 0).isLt _) (h.2 0)
  have b1 : off 1 + (y 1).val < n1 := Nat.lt_of_lt_of_le (Nat.add_lt_add_left (y 1).isLt _) (h.2 1)
  have b2 : off 2 + (y 2).val < n2 := Nat.lt_of_lt_of_le (Nat.add_lt_add_left (y 2).isLt _) (h.2 2)
  rw [at3_of_lt x b0 b1 b2]
  refine extractStridedSlice_apply off x h y _ fun a => ?_
  match a with
  | ⟨0, _⟩ => rfl
  | ⟨1, _⟩ => rfl
  | ⟨2, _⟩ => rfl

/-- The same, the slice itself read at coordinates inside it. -/
theorem at3_slice {n0 n1 n2 p0 p1 p2 : ℕ} (off : Fin 3 → ℕ) (x : (⟨3, ![n0, n1, n2]⟩ : Shape).Idx → EReal)
    (h : (⟨3, ![n0, n1, n2]⟩ : Shape).Slices off ⟨3, ![p0, p1, p2]⟩) {i j k : ℕ} (h0 : i < p0) (h1 : j < p1) (h2 : k < p2) :
    at3 (extractStridedSlice ⟨3, ![p0, p1, p2]⟩ off x h) i j k = at3 x (off 0 + i) (off 1 + j) (off 2 + k) :=
  (at3_of_lt _ h0 h1 h2).trans (slice_at3 off x h _)

/-- Two arrays joined along axis 0. -/
theorem cat0_at3 {p q n n1 n2 : ℕ} (x : (⟨3, ![p, n1, n2]⟩ : Shape).Idx → EReal) (z : (⟨3, ![q, n1, n2]⟩ : Shape).Idx → EReal)
    (h : Shape.Concatenates [⟨3, ![p, n1, n2]⟩, ⟨3, ![q, n1, n2]⟩] ⟨3, ![n, n1, n2]⟩ 0) (y : (⟨3, ![n, n1, n2]⟩ : Shape).Idx) :
    concatenate ⟨3, ![n, n1, n2]⟩ 0 [⟨⟨3, ![p, n1, n2]⟩, x⟩, ⟨⟨3, ![q, n1, n2]⟩, z⟩] h y
      = if (y 0).val < p then at3 x (y 0).val (y 1).val (y 2).val else at3 z ((y 0).val - p) (y 1).val (y 2).val := by
  have hn : n = p + q := by have := h.2.2; simpa using this.symm
  have hy : (y 0).val < n := (y 0).isLt
  by_cases hlt : (y 0).val < p
  · rw [if_pos hlt, at3_of_lt x hlt (y 1).isLt (y 2).isLt]
    refine concatenate_pair_apply_left 0 x z h y rfl _ fun b => ?_
    match b with
    | ⟨0, _⟩ => rfl
    | ⟨1, _⟩ => rfl
    | ⟨2, _⟩ => rfl
  · rw [if_neg hlt, at3_of_lt z (by omega : (y 0).val - p < q) (y 1).isLt (y 2).isLt]
    refine concatenate_pair_apply_right 0 x z h y rfl rfl _ (fun b hb => ?_) ?_
    · match b, hb with
      | ⟨0, _⟩, hb => exact absurd rfl hb
      | ⟨1, _⟩, _ => rfl
      | ⟨2, _⟩, _ => rfl
    · show (y 0).val - p + p = (y 0).val
      omega

/-- Two arrays joined along axis 1. -/
theorem cat1_at3 {p q n n0 n2 : ℕ} (x : (⟨3, ![n0, p, n2]⟩ : Shape).Idx → EReal) (z : (⟨3, ![n0, q, n2]⟩ : Shape).Idx → EReal)
    (h : Shape.Concatenates [⟨3, ![n0, p, n2]⟩, ⟨3, ![n0, q, n2]⟩] ⟨3, ![n0, n, n2]⟩ 1) (y : (⟨3, ![n0, n, n2]⟩ : Shape).Idx) :
    concatenate ⟨3, ![n0, n, n2]⟩ 1 [⟨⟨3, ![n0, p, n2]⟩, x⟩, ⟨⟨3, ![n0, q, n2]⟩, z⟩] h y
      = if (y 1).val < p then at3 x (y 0).val (y 1).val (y 2).val else at3 z (y 0).val ((y 1).val - p) (y 2).val := by
  have hn : n = p + q := by have := h.2.2; simpa using this.symm
  have hy : (y 1).val < n := (y 1).isLt
  by_cases hlt : (y 1).val < p
  · rw [if_pos hlt, at3_of_lt x (y 0).isLt hlt (y 2).isLt]
    refine concatenate_pair_apply_left 1 x z h y rfl _ fun b => ?_
    match b with
    | ⟨0, _⟩ => rfl
    | ⟨1, _⟩ => rfl
    | ⟨2, _⟩ => rfl
  · rw [if_neg hlt, at3_of_lt z (y 0).isLt (by omega : (y 1).val - p < q) (y 2).isLt]
    refine concatenate_pair_apply_right 1 x z h y rfl rfl _ (fun b hb => ?_) ?_
    · match b, hb with
      | ⟨1, _⟩, hb => exact absurd rfl hb
      | ⟨0, _⟩, _ => rfl
      | ⟨2, _⟩, _ => rfl
    · show (y 1).val - p + p = (y 1).val
      omega

/-- Two arrays joined along axis 2. -/
theorem cat2_at3 {p q n n0 n1 : ℕ} (x : (⟨3, ![n0, n1, p]⟩ : Shape).Idx → EReal) (z : (⟨3, ![n0, n1, q]⟩ : Shape).Idx → EReal)
    (h : Shape.Concatenates [⟨3, ![n0, n1, p]⟩, ⟨3, ![n0, n1, q]⟩] ⟨3, ![n0, n1, n]⟩ 2) (y : (⟨3, ![n0, n1, n]⟩ : Shape).Idx) :
    concatenate ⟨3, ![n0, n1, n]⟩ 2 [⟨⟨3, ![n0, n1, p]⟩, x⟩, ⟨⟨3, ![n0, n1, q]⟩, z⟩] h y
      = if (y 2).val < p then at3 x (y 0).val (y 1).val (y 2).val else at3 z (y 0).val (y 1).val ((y 2).val - p) := by
  have hn : n = p + q := by have := h.2.2; simpa using this.symm
  have hy : (y 2).val < n := (y 2).isLt
  by_cases hlt : (y 2).val < p
  · rw [if_pos hlt, at3_of_lt x (y 0).isLt (y 1).isLt hlt]
    refine concatenate_pair_apply_left 2 x z h y rfl _ fun b => ?_
    match b with
    | ⟨0, _⟩ => rfl
    | ⟨1, _⟩ => rfl
    | ⟨2, _⟩ => rfl
  · rw [if_neg hlt, at3_of_lt z (y 0).isLt (y 1).isLt (by omega : (y 2).val - p < q)]
    refine concatenate_pair_apply_right 2 x z h y rfl rfl _ (fun b hb => ?_) ?_
    · match b, hb with
      | ⟨2, _⟩, hb => exact absurd rfl hb
      | ⟨0, _⟩, _ => rfl
      | ⟨1, _⟩, _ => rfl
    · show (y 2).val - p + p = (y 2).val
      omega

/-- Casting a leading unit axis onto a rank-3 array does not move an element. -/
theorem cast_at3 {n0 n1 n2 : ℕ} (x : (⟨3, ![n0, n1, n2]⟩ : Shape).Idx → EReal)
    (h : (⟨3, ![n0, n1, n2]⟩ : Shape).ShapeCasts ⟨4, ![1, n0, n1, n2]⟩) (y : (⟨4, ![1, n0, n1, n2]⟩ : Shape).Idx) :
    shapeCast ⟨4, ![1, n0, n1, n2]⟩ x h y = at3 x (y 1).val (y 2).val (y 3).val :=
  (shapeCast_addUnit_apply (![n0, n1, n2]) x h y).trans (eq_at3_of x _ rfl rfl rfl)

end Cert.Cube

end
-- ==== Proof.Spec.lean ====
/- What the kernel computes, element by element: a block of the output from the block it loads, the plane after the block
   and the plane carried from the block before; and the whole output array from the whole grid. -/
module

public import proofs.«01_k».proof.Proof.Cube
public import proofs.«01_k».proof.KernelIdeal

@[expose] public section

noncomputable section

namespace Cert.Spec

open Idealize.ShloMosaic Cert.Cube Cert.KernelIdeal

/-- The reciprocal of the step, 255/8, as the kernel spells it. -/
def sinv : EReal := Ideal.ofBits .f32 0x41FF0000#32
/-- The kernel's 3/2 -/
def c15 : EReal := Ideal.ofBits .f32 0x3FC00000#32
/-- and its 1/2. -/
def c05 : EReal := Ideal.ofBits .f32 0x3F000000#32

/-- The difference along a line of 256 scaled elements: the next element less the previous one, where the element past either
    end is extrapolated from the line. -/
def lineDiff (c : ℕ → EReal) (j : ℕ) : EReal :=
  (if j < 255 then c (j + 1) else c15 * c 255 - c05 * c 253) - (if j < 1 then c15 * c 0 - c05 * c 2 else c (j - 1))

/-- The difference across planes at plane `i` of a block: `x` the block's planes, `nxt` the plane after the block, `car` the
    carried plane before it (already scaled); the first plane of the first block and the last of the last are corrected. -/
def planeDiff (first last : Prop) [Decidable first] [Decidable last] (x : ℕ → EReal) (nxt car : EReal) (i : ℕ) : EReal :=
  if first ∧ i = 0 then ((x 1 - c15 * x 0) + c05 * x 2) * sinv
  else if last ∧ i = 15 then ((c15 * x 15 - x 14) - c05 * x 13) * sinv
  else if i = 0 then x 1 * sinv - car
  else if i = 15 then (nxt - x 14) * sinv
  else (x (i + 1) - x (i - 1)) * sinv

/-- One element of a block of the output. -/
def blockAt (first last : Prop) [Decidable first] [Decidable last] (x0 : S16x256x256.Idx → EReal) (x1 s : S1x256x256.Idx → EReal)
    (a i j k : ℕ) : EReal :=
  match a with
  | 0 => planeDiff first last (fun q => at3 x0 q j k) (at3 x1 0 j k) (at3 s 0 j k) i
  | 1 => lineDiff (fun q => at3 x0 i q k * sinv) j
  | _ => lineDiff (fun q => at3 x0 i j q * sinv) k

/-- One element of the whole output, from the whole grid. -/
def wholeAt (g : S256x256x256.Idx → EReal) (a i j k : ℕ) : EReal :=
  match a with
  | 0 => planeDiff (i / 16 = 0) (i / 16 = 15) (fun q => at3 g (i / 16 * 16 + q) j k) (at3 g (min (i / 16 * 16 + 16) 255) j k)
      (at3 g (i / 16 * 16 - 1) j k * sinv) (i % 16)
  | 1 => lineDiff (fun q => at3 g i q k * sinv) j
  | _ => lineDiff (fun q => at3 g i j q * sinv) k

/-- A block of the output as an array. -/
def block (first last : Prop) [Decidable first] [Decidable last] (x0 : S16x256x256.Idx → EReal) (x1 s : S1x256x256.Idx → EReal) :
    S3x16x256x256.Idx → EReal :=
  fun y => blockAt first last x0 x1 s (y 0).val (y 1).val (y 2).val (y 3).val

/-- The whole output as an array. -/
def whole (g : S256x256x256.Idx → EReal) : S3x256x256x256.Idx → EReal :=
  fun y => wholeAt g (y 0).val (y 1).val (y 2).val (y 3).val

end Cert.Spec

end
-- ==== Proof.Payload.lean ====
/- The values the body stores, read at an index: each is the specification's arithmetic on the elements of what was loaded. -/
module

public import proofs.«01_k».proof.Proof.Spec
public import proofs.«01_k».proof.Proof.Gen.KernelIdeal.Skeleton

@[expose] public section

set_option maxRecDepth 16384

noncomputable section

namespace Cert.Payload

open Idealize.ShloMosaic Cert.Cube Cert.Spec Cert.KernelIdeal Cert.KernelIdeal.Gen

/-- The scaled block element by element (`0` outside scales to `0`). -/
theorem pay5_at (v : S8x256x256.Idx → EReal) (i j k : ℕ) : at3 (k0_pay5 (F := Ideal) sinv v) i j k = at3 v i j k * sinv :=
  at3_map (fun e => e * sinv) (zero_mul _) v _ (fun _ => rfl) i j k

/-- The extrapolation `3/2·a − 1/2·b` element by element. -/
theorem extra_at {n0 n1 n2 : ℕ} (a b z : (⟨3, ![n0, n1, n2]⟩ : Shape).Idx → EReal) (h : ∀ y, z y = c15 * a y - c05 * b y)
    (i j k : ℕ) : at3 z i j k = c15 * at3 a i j k - c05 * at3 b i j k := by
  unfold at3
  split
  · exact h _
  · rw [mul_zero, mul_zero, sub_zero]

/-- The plane carried to the next point, scaled. -/
theorem pay1_at (v : S1x256x256.Idx → EReal) (i j k : ℕ) : at3 (k0_pay1 (F := Ideal) v) i j k = at3 v i j k * sinv := by
  refine at3_map (fun e => e * sinv) (zero_mul _) v _ (fun y => ?_) i j k
  unfold k0_pay1
  exact congrFun (shapeCast_self _ _) y

/-- The interior planes: the difference of the planes two apart, scaled. -/
theorem pay9_at (v w : S14x256x256.Idx → EReal) (y : S1x14x256x256.Idx) :
    k0_pay9 (F := Ideal) v w y = (at3 v (y 1).val (y 2).val (y 3).val - at3 w (y 1).val (y 2).val (y 3).val) * sinv := by
  unfold k0_pay9
  refine (shapeCast_addUnit_apply (![14, 256, 256]) _ _ y).trans ?_
  exact congrArg₂ (fun p q : EReal => (p - q) * sinv) (eq_at3_of v _ rfl rfl rfl) (eq_at3_of w _ rfl rfl rfl)

/-- The first plane of a block that is not the first: the second plane scaled, less the carried plane. -/
theorem pay10_at (v w : S1x256x256.Idx → EReal) (y : S1x1x256x256.Idx) :
    k0_pay10 (F := Ideal) v w y = at3 v (y 1).val (y 2).val (y 3).val * sinv - at3 w (y 1).val (y 2).val (y 3).val := by
  unfold k0_pay10
  refine (shapeCast_addUnit_apply (![1, 256, 256]) _ _ y).trans ?_
  exact congrArg₂ (fun p q : EReal => p * sinv - q) (eq_at3_of v _ rfl rfl rfl) (eq_at3_of w _ rfl rfl rfl)

/-- The last plane of a block that is not the last: the plane after the block less the last but one, scaled. -/
theorem pay11_at (v w : S1x256x256.Idx → EReal) (y : S1x1x256x256.Idx) :
    k0_pay11 (F := Ideal) v w y = (at3 v (y 1).val (y 2).val (y 3).val - at3 w (y 1).val (y 2).val (y 3).val) * sinv := by
  unfold k0_pay11
  refine (shapeCast_addUnit_apply (![1, 256, 256]) _ _ y).trans ?_
  exact congrArg₂ (fun p q : EReal => (p - q) * sinv) (eq_at3_of v _ rfl rfl rfl) (eq_at3_of w _ rfl rfl rfl)

/-- Casting two leading unit axes onto a rank-2 array does not move an element; -/
theorem cast2_apply (x : S256x256.Idx → EReal) (y : S1x1x256x256.Idx) :
    shapeCast S1x1x256x256 x shapeCasts_S256x256_S1x1x256x256 y = x fun a => y a.succ.succ := by
  have h0 : (y 0).val < 1 := (y 0).isLt
  have h1 : (y 1).val < 1 := (y 1).isLt
  refine shapeCast_apply x _ y _ ?_
  refine (Shape.rowMajor_val_two (d := ![256, 256]) _).trans (Eq.trans ?_ (Shape.rowMajor_val_four (d := ![1, 1, 256, 256]) y).symm)
  show (y 2).val * 256 + (y 3).val = (((y 0).val * 1 + (y 1).val) * 256 + (y 2).val) * 256 + (y 3).val
  omega

/-- and casting the unit axis of a plane away reads the plane. -/
theorem drop_at (x : S1x256x256.Idx → EReal) (y : S1x1x256x256.Idx) :
    shapeCast S256x256 x shapeCasts_S1x256x256_S256x256 (fun a => y a.succ.succ) = at3 x (y 1).val (y 2).val (y 3).val := by
  have h1 : (y 1).val < 1 := (y 1).isLt
  refine (shapeCast_dropUnit_apply (![256, 256]) x _ _).trans (eq_at3_of x _ ?_ rfl rfl)
  show 0 = (y 1).val
  omega

/-- The first plane of the grid. -/
theorem pay3_at (u v w : S1x256x256.Idx → EReal) (y : S1x1x256x256.Idx) :
    k0_pay3 (F := Ideal) u v w y = ((at3 u (y 1).val (y 2).val (y 3).val - c15 * at3 v (y 1).val (y 2).val (y 3).val)
      + c05 * at3 w (y 1).val (y 2).val (y 3).val) * sinv := by
  unfold k0_pay3
  refine (cast2_apply _ y).trans ?_
  rw [← drop_at u, ← drop_at v, ← drop_at w]
  rfl

/-- The last plane of the grid. -/
theorem pay4_at (u v w : S1x256x256.Idx → EReal) (y : S1x1x256x256.Idx) :
    k0_pay4 (F := Ideal) u v w y = ((c15 * at3 u (y 1).val (y 2).val (y 3).val - at3 v (y 1).val (y 2).val (y 3).val)
      - c05 * at3 w (y 1).val (y 2).val (y 3).val) * sinv := by
  unfold k0_pay4
  refine (cast2_apply _ y).trans ?_
  rw [← drop_at u, ← drop_at v, ← drop_at w]
  rfl

/-- A slice of the scaled block, read at coordinates. -/
theorem part_at {p0 p1 p2 : ℕ} (off : Fin 3 → ℕ) (v : S8x256x256.Idx → EReal) (h : S8x256x256.Slices off ⟨3, ![p0, p1, p2]⟩)
    {i j k i' j' k' : ℕ} (h0 : i < p0) (h1 : j < p1) (h2 : k < p2) (e0 : off 0 + i = i') (e1 : off 1 + j = j')
    (e2 : off 2 + k = k') :
    at3 (extractStridedSlice ⟨3, ![p0, p1, p2]⟩ off (k0_pay5 (F := Ideal) sinv v) h) i j k = at3 v i' j' k' * sinv := by
  subst e0 e1 e2
  exact (at3_slice off _ h h0 h1 h2).trans (pay5_at v _ _ _)

/-- The difference along axis 1 of eight planes. -/
theorem pay6_at (v : S8x256x256.Idx → EReal) (y : S1x8x256x256.Idx) :
    k0_pay6 (F := Ideal) sinv v y = lineDiff (fun q => at3 v (y 1).val q (y 3).val * sinv) (y 2).val := by
  have h1 : (y 1).val < 8 := (y 1).isLt
  have h2 : (y 2).val < 256 := (y 2).isLt
  have h3 : (y 3).val < 256 := (y 3).isLt
  unfold k0_pay6
  refine (shapeCast_addUnit_apply (![8, 256, 256]) _ _ y).trans ?_
  refine (congrArg₂ (fun p q : EReal => p - q) (cat1_at3 _ _ _ _) (cat1_at3 _ _ _ _)).trans ?_
  unfold lineDiff
  refine congrArg₂ (fun p q : EReal => p - q) (ite_congr rfl (fun h => ?_) fun h => ?_) (ite_congr rfl (fun h => ?_) fun h => ?_)
  · exact part_at _ v _ h1 h h3 (Nat.zero_add _) (Nat.add_comm _ _) (Nat.zero_add _)
  · have hj : (y 2).val - 255 < 1 := by omega
    have hz : (y 2).val - 255 = 0 := by omega
    refine (extra_at _ _ _ (fun _ => rfl) _ _ _).trans (congrArg₂ (fun p q : EReal => c15 * p - c05 * q) ?_ ?_)
    · exact part_at _ v _ h1 hj h3 (Nat.zero_add _) (congrArg (255 + ·) hz) (Nat.zero_add _)
    · exact part_at _ v _ h1 hj h3 (Nat.zero_add _) (congrArg (253 + ·) hz) (Nat.zero_add _)
  · have hz : (y 2).val = 0 := Nat.lt_one_iff.1 h
    refine (extra_at _ _ _ (fun _ => rfl) _ _ _).trans (congrArg₂ (fun p q : EReal => c15 * p - c05 * q) ?_ ?_)
    · exact part_at _ v _ h1 h h3 (Nat.zero_add _) (congrArg (0 + ·) hz) (Nat.zero_add _)
    · exact part_at _ v _ h1 h h3 (Nat.zero_add _) (congrArg (2 + ·) hz) (Nat.zero_add _)
  · have hj : (y 2).val - 1 < 255 := by omega
    exact part_at _ v _ h1 hj h3 (Nat.zero_add _) (Nat.zero_add _) (Nat.zero_add _)

/-- The difference along axis 2 of eight planes. -/
theorem pay2_at (v : S8x256x256.Idx → EReal) (y : S1x8x256x256.Idx) :
    k0_pay2 (F := Ideal) (k0_pay5 sinv v) (k0_pay7 sinv v) (k0_pay8 sinv v) y
      = lineDiff (fun q => at3 v (y 1).val (y 2).val q * sinv) (y 3).val := by
  have h1 : (y 1).val < 8 := (y 1).isLt
  have h2 : (y 2).val < 256 := (y 2).isLt
  have h3 : (y 3).val < 256 := (y 3).isLt
  unfold k0_pay2 k0_pay7 k0_pay8
  refine (shapeCast_addUnit_apply (![8, 256, 256]) _ _ y).trans ?_
  refine (congrArg₂ (fun p q : EReal => p - q) (cat2_at3 _ _ _ _) (cat2_at3 _ _ _ _)).trans ?_
  unfold lineDiff
  refine congrArg₂ (fun p q : EReal => p - q) (ite_congr rfl (fun h => ?_) fun h => ?_) (ite_congr rfl (fun h => ?_) fun h => ?_)
  · exact part_at _ v _ h1 h2 h (Nat.zero_add _) (Nat.zero_add _) (Nat.add_comm _ _)
  · have hj : (y 3).val - 255 < 1 := by omega
    have hz : (y 3).val - 255 = 0 := by omega
    refine (extra_at _ _ _ (fun _ => rfl) _ _ _).trans (congrArg₂ (fun p q : EReal => c15 * p - c05 * q) ?_ ?_)
    · exact part_at _ v _ h1 h2 hj (Nat.zero_add _) (Nat.zero_add _) (congrArg (255 + ·) hz)
    · exact part_at _ v _ h1 h2 hj (Nat.zero_add _) (Nat.zero_add _) (congrArg (253 + ·) hz)
  · have hz : (y 3).val = 0 := Nat.lt_one_iff.1 h
    refine (extra_at _ _ _ (fun _ => rfl) _ _ _).trans (congrArg₂ (fun p q : EReal => c15 * p - c05 * q) ?_ ?_)
    · exact part_at _ v _ h1 h2 h (Nat.zero_add _) (Nat.zero_add _) (congrArg (0 + ·) hz)
    · exact part_at _ v _ h1 h2 h (Nat.zero_add _) (Nat.zero_add _) (congrArg (2 + ·) hz)
  · have hj : (y 3).val - 1 < 255 := by omega
    exact part_at _ v _ h1 h2 hj (Nat.zero_add _) (Nat.zero_add _) (Nat.zero_add _)

end Cert.Payload

end
-- ==== Proof.Points.lean ====
/- The grid's points by kind: the first, where the block's first plane is corrected; the last, where the block's last
   plane is; the rest. With the memrefs that the body is called on, and the kernel's scratch as owned memory. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body corrects the first plane of its block. -/
abbrev isFirst (i : grid0.Coords) : Prop :=
  (Scalar.cmpi .ne (Scalar.extui (Scalar.cmpi .eq (BitVec.ofNat 32 (i 0).val) 0#32)) 0#32) = 1#1

/-- The condition under which the body corrects the last plane of its block. -/
abbrev isLast (i : grid0.Coords) : Prop :=
  (Scalar.cmpi .ne (Scalar.extui (Scalar.cmpi .eq (BitVec.ofNat 32 (i 0).val) 15#32)) 0#32) = 1#1

/-- A point's only grid coordinate is its number. -/
theorem coord_val (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- The first plane is corrected at point 0 only. -/
theorem isFirst_iff (t : Fin cfg0.N) : isFirst (grid0.coords t) ↔ t.val = 0 := by
  have ht : t.val < 16 := Nat.lt_of_lt_of_eq t.isLt N_0
  simp only [isFirst, coord_val]
  word_cmp

/-- The last plane is corrected at point 15 only. -/
theorem isLast_iff (t : Fin cfg0.N) : isLast (grid0.coords t) ↔ t.val = 15 := by
  have ht : t.val < 16 := Nat.lt_of_lt_of_eq t.isLt N_0
  simp only [isLast, coord_val]
  word_cmp

/-- The staging memrefs of the three windows at a point, -/
abbrev mIn (t : Fin cfg0.N) : Memref sig .tc .vmem S16x256x256 .f32 := win0_0.stage (cfg0.slots t 0)
/-- The buffer holding the plane after the block at a point. -/
abbrev mNext (t : Fin cfg0.N) : Memref sig .tc .vmem S1x256x256 .f32 := win0_1.stage (cfg0.slots t 1)
/-- The buffer the output block is written to at a point. -/
abbrev mOut (t : Fin cfg0.N) : Memref sig .tc .vmem S3x16x256x256 .f32 := win0_2.stage (cfg0.slots t 2)
/-- and the scratch, which carries one plane from a point to the next. -/
abbrev mCarry : Memref sig .tc .vmem S1x256x256 .f32 := Memref.whole cc0_scratch0

/-- What a point has at its disposal beside the windows: the scratch at some contents, and the generator. -/
theorem rest_eq (c : Dev nD) :
    (Pipeline.ΦA spec0 c : sProp 𝕄)
      = iprop(iprop((∃ d, owns (c : Thread nD τ) mCarry fullShare d)) ∗ (∃ r, prngReg c r)) := by
  unfold Pipeline.ΦA; rw [scopedRest0_eq]; simp only [mCarry, owns_whole]; try rfl

end Cert.KernelIdeal.Grad

end
-- ==== Proof.Trip.lean ====
/- What one trip of the body's loop stores: the differences along axes 1 and 2 of eight planes of the block. -/
module

public import proofs.«01_k».proof.Proof.Payload
public import proofs.«01_k».proof.Proof.Points
public import Idealize.ShloMosaic.Lib.WritesUnit

@[expose] public section

set_option maxRecDepth 16384

noncomputable section

namespace Cert.Trip

open Idealize.ShloMosaic Idealize.ShloMosaic.TcCoe Cert.Cube Cert.Spec Cert.Payload Cert.KernelIdeal Cert.KernelIdeal.Gen

/-- A load at literal offsets from a whole memref's contents reads the block at the offsets. -/
theorem load_at {n0 n1 n2 p0 p1 p2 : ℕ} (arg : Memref sig .tc .vmem ⟨3, ![n0, n1, n2]⟩ .f32) (harg : arg.IsWhole)
    (x : (⟨3, ![n0, n1, n2]⟩ : Shape).Idx → EReal) (off : Fin 3 → ℕ)
    (inb : ∀ a, off a + (![p0, p1, p2] : Fin 3 → ℕ) a ≤ (⟨3, ![n0, n1, n2]⟩ : Shape).size a) {i j k i' j' k' : ℕ}
    (h0 : i < p0) (h1 : j < p1) (h2 : k < p2) (e0 : off 0 + i = i') (e1 : off 1 + j = j') (e2 : off 2 + k = k') :
    at3 (n0 := p0) (n1 := p1) (n2 := p2) (View.readAt (Elt Ideal) arg.view
      (Rect.unit (s := ⟨3, ![n0, n1, n2]⟩) off ![p0, p1, p2] inb).toLoadRect (harg.unread x)) i j k = at3 x i' j' k' := by
  subst e0 e1 e2
  refine (at3_of_lt _ h0 h1 h2).trans ?_
  rw [View.readAt_eq_ld, harg.read_unread]
  refine eq_at3_of x _ ?_ ?_ ?_
  · exact congrArg (off 0 + ·) (Nat.one_mul _)
  · exact congrArg (off 1 + ·) (Nat.one_mul _)
  · exact congrArg (off 2 + ·) (Nat.one_mul _)

/-- A block of the output read at an index of a rectangle of it. -/
theorem block_emb (first last : Prop) [Decidable first] [Decidable last] (x0 : S16x256x256.Idx → EReal)
    (x1 s : S1x256x256.Idx → EReal) (off size : Fin 4 → ℕ) (inb : ∀ a, off a + size a ≤ S3x16x256x256.size a)
    (x : (Rect.unit (s := S3x16x256x256) off size inb).shape.Idx) {a i j k : ℕ} (ea : off 0 + (x 0).val = a)
    (ei : off 1 + (x 1).val = i) (ej : off 2 + (x 2).val = j) (ek : off 3 + (x 3).val = k) :
    block first last x0 x1 s ((Rect.unit (s := S3x16x256x256) off size inb).emb x) = blockAt first last x0 x1 s a i j k := by
  subst ea ei ej ek
  have e : ∀ a, ((Rect.unit (s := S3x16x256x256) off size inb).emb x a).val = off a + (x a).val :=
    fun a => congrArg (off a + ·) (Nat.one_mul _)
  unfold block
  rw [e 0, e 1, e 2, e 3]

section
variable (c : Dev nD) (i : grid0.Coords) (arg1 : Memref sig .tc .vmem S16x256x256 .f32) (harg1 : arg1.IsWhole)
  (arg2 : Memref sig .tc .vmem S1x256x256 .f32) (harg2 : arg2.IsWhole) (arg3 : Memref sig .tc .vmem S3x16x256x256 .f32)
  (harg3 : arg3.IsWhole) (arg4 : Memref sig .tc .vmem S1x256x256 .f32) (harg4 : arg4.IsWhole)
  (x0 : S16x256x256.Idx → EReal)

/-- The pieces that trip `k` stores. -/
abbrev pieces (k : Fin k0_t1_loop.trips) : List (View.Piece (Elt Ideal) S3x16x256x256 .f32) :=
  tripL_k0_t1 (F := Ideal) Variants.none c none i arg1 harg1 arg2 harg2 arg3 harg3 arg4 harg4 sinv (harg1.unread x0) k

/-- The eight planes that trip `k` loads. -/
abbrev eight (k : Fin k0_t1_loop.trips) : S8x256x256.Idx → EReal :=
  View.readAt (Elt Ideal) arg1.view (Rect.unit (s := S16x256x256) (k0_off1 k) S8x256x256.size (k0_off1_inb k)).toLoadRect
    (harg1.unread x0)

/-- A trip stores two pieces: the difference along axis 2, after the difference along axis 1. -/
theorem pieces_eq (k : Fin k0_t1_loop.trips) :
    pieces c i arg1 harg1 arg2 harg2 arg3 harg3 arg4 harg4 x0 k
      = [⟨Rect.unit (s := S3x16x256x256) (k0_off3 k) S1x8x256x256.size (k0_off3_inb k),
          k0_pay2 (F := Ideal) (k0_pay5 sinv (eight arg1 harg1 x0 k)) (k0_pay7 sinv (eight arg1 harg1 x0 k))
            (k0_pay8 sinv (eight arg1 harg1 x0 k))⟩,
        ⟨Rect.unit (s := S3x16x256x256) (k0_off2 k) S1x8x256x256.size (k0_off2_inb k),
          k0_pay6 (F := Ideal) sinv (eight arg1 harg1 x0 k)⟩] := by
  unfold pieces tripL_k0_t1 trip_k0_t1
  rfl

/-- The planes a trip loads are planes `8k … 8k + 7` of the block. -/
theorem eight_at (k : Fin k0_t1_loop.trips) {p q r : ℕ} (h0 : p < 8) (h1 : q < 256) (h2 : r < 256) :
    at3 (eight arg1 harg1 x0 k) p q r = at3 x0 (8 * k.val + p) q r := by
  have e := k0_off1_eq k
  exact load_at arg1 harg1 x0 _ _ h0 h1 h2 (congrArg (· + p) (congrFun e 0)) ((congrArg (· + q) (congrFun e 1)).trans (Nat.zero_add _))
    ((congrArg (· + r) (congrFun e 2)).trans (Nat.zero_add _))

/-- A line difference depends on the line inside its 256 elements only. -/
theorem lineDiff_congr {u w : ℕ → EReal} (h : ∀ q, q < 256 → u q = w q) {j : ℕ} (hj : j < 256) : lineDiff u j = lineDiff w j := by
  unfold lineDiff
  refine congrArg₂ (fun p q : EReal => p - q) (ite_congr rfl (fun h' => ?_) fun h' => ?_) (ite_congr rfl (fun h' => ?_) fun h' => ?_)
  · exact h _ (by omega)
  · rw [h 255 (by omega), h 253 (by omega)]
  · rw [h 0 (by omega), h 2 (by omega)]
  · exact h _ (by omega)

/-- Each piece of a trip holds the specification's elements over its rectangle. -/
theorem pieces_agree (first last : Prop) [Decidable first] [Decidable last] (x1 s : S1x256x256.Idx → EReal)
    (k : Fin k0_t1_loop.trips) (p : View.Piece (Elt Ideal) S3x16x256x256 .f32)
    (hp : p ∈ pieces c i arg1 harg1 arg2 harg2 arg3 harg3 arg4 harg4 x0 k) (x : p.1.shape.Idx) :
    p.2 x = block first last x0 x1 s (p.1.emb x) := by
  rw [pieces_eq] at hp
  rcases List.mem_cons.1 hp with rfl | hp
  · have e := k0_off3_eq k
    have h0 : (x 0).val < 1 := (x 0).isLt
    have h1 : (x 1).val < 8 := (x 1).isLt
    have h2 : (x 2).val < 256 := (x 2).isLt
    refine (pay2_at _ x).trans (Eq.trans ?_ (block_emb first last x0 x1 s _ _ (k0_off3_inb k) x (a := 2)
      ((congrArg (· + (x 0).val) (congrFun e 0)).trans (congrArg (2 + ·) (Nat.lt_one_iff.1 h0)))
      (congrArg (· + (x 1).val) (congrFun e 1)) ((congrArg (· + (x 2).val) (congrFun e 2)).trans (Nat.zero_add _))
      ((congrArg (· + (x 3).val) (congrFun e 3)).trans (Nat.zero_add _))).symm)
    exact lineDiff_congr (fun q hq => congrArg (· * sinv) (eight_at arg1 harg1 x0 k h1 h2 hq)) (x 3).isLt
  · obtain rfl := List.mem_singleton.1 hp
    have e := k0_off2_eq k
    have h0 : (x 0).val < 1 := (x 0).isLt
    have h1 : (x 1).val < 8 := (x 1).isLt
    have h3 : (x 3).val < 256 := (x 3).isLt
    refine (pay6_at _ x).trans (Eq.trans ?_ (block_emb first last x0 x1 s _ _ (k0_off2_inb k) x (a := 1)
      ((congrArg (· + (x 0).val) (congrFun e 0)).trans (congrArg (1 + ·) (Nat.lt_one_iff.1 h0)))
      (congrArg (· + (x 1).val) (congrFun e 1)) ((congrArg (· + (x 2).val) (congrFun e 2)).trans (Nat.zero_add _))
      ((congrArg (· + (x 3).val) (congrFun e 3)).trans (Nat.zero_add _))).symm)
    exact lineDiff_congr (fun q hq => congrArg (· * sinv) (eight_at arg1 harg1 x0 k h1 hq h3)) (x 2).isLt

/-- A trip's pieces cover its eight planes of the second and third components. -/
theorem pieces_cover (k : Fin k0_t1_loop.trips) (y : S3x16x256x256.Idx) (h0 : (y 0).val ≠ 0) (hlo : 8 * k.val ≤ (y 1).val)
    (hhi : (y 1).val < 8 * k.val + 8) :
    ∃ p ∈ pieces c i arg1 harg1 arg2 harg2 arg3 harg3 arg4 harg4 x0 k, y ∈ p.1.set := by
  have b0 : (y 0).val < 3 := (y 0).isLt
  have b2 : (y 2).val < 256 := (y 2).isLt
  have b3 : (y 3).val < 256 := (y 3).isLt
  rw [pieces_eq]
  by_cases h : (y 0).val = 2
  · refine ⟨_, List.mem_cons_self, ?_⟩
    show y ∈ (Rect.unit (s := S3x16x256x256) (k0_off3 k) S1x8x256x256.size (k0_off3_inb k)).set
    rw [Rect.mem_set_unit, k0_off3_eq]
    intro a
    match a with
    | ⟨0, _⟩ => exact (⟨by omega, by omega⟩ : 2 ≤ (y 0).val ∧ (y 0).val < 2 + 1)
    | ⟨1, _⟩ => exact (⟨by omega, by omega⟩ : 8 * k.val ≤ (y 1).val ∧ (y 1).val < 8 * k.val + 8)
    | ⟨2, _⟩ => exact (⟨by omega, by omega⟩ : 0 ≤ (y 2).val ∧ (y 2).val < 0 + 256)
    | ⟨3, _⟩ => exact (⟨by omega, by omega⟩ : 0 ≤ (y 3).val ∧ (y 3).val < 0 + 256)
  · refine ⟨_, List.mem_cons_of_mem _ List.mem_cons_self, ?_⟩
    show y ∈ (Rect.unit (s := S3x16x256x256) (k0_off2 k) S1x8x256x256.size (k0_off2_inb k)).set
    rw [Rect.mem_set_unit, k0_off2_eq]
    intro a
    match a with
    | ⟨0, _⟩ => exact (⟨by omega, by omega⟩ : 1 ≤ (y 0).val ∧ (y 0).val < 1 + 1)
    | ⟨1, _⟩ => exact (⟨by omega, by omega⟩ : 8 * k.val ≤ (y 1).val ∧ (y 1).val < 8 * k.val + 8)
    | ⟨2, _⟩ => exact (⟨by omega, by omega⟩ : 0 ≤ (y 2).val ∧ (y 2).val < 0 + 256)
    | ⟨3, _⟩ => exact (⟨by omega, by omega⟩ : 0 ≤ (y 3).val ∧ (y 3).val < 0 + 256)

/-- The pieces of the trips before `n`. -/
abbrev loopPieces (n : ℕ) : List (View.Piece (Elt Ideal) S3x16x256x256 .f32) :=
  pb_k0_t1 (F := Ideal) Variants.none c none i arg1 harg1 arg2 harg2 arg3 harg3 arg4 harg4 sinv (harg1.unread x0) n

/-- Every piece of the loop is a trip's. -/
theorem loopPieces_agree (first last : Prop) [Decidable first] [Decidable last] (x1 s : S1x256x256.Idx → EReal) (n : ℕ)
    (hn : n ≤ k0_t1_loop.trips) (p : View.Piece (Elt Ideal) S3x16x256x256 .f32)
    (hp : p ∈ loopPieces c i arg1 harg1 arg2 harg2 arg3 harg3 arg4 harg4 x0 n) (x : p.1.shape.Idx) :
    p.2 x = block first last x0 x1 s (p.1.emb x) := by
  induction n with
  | zero => exact absurd hp List.not_mem_nil
  | succ n ih =>
    unfold loopPieces at hp
    rw [pb_k0_t1_succ (F := Ideal) Variants.none c none i arg1 harg1 arg2 harg2 arg3 harg3 arg4 harg4 sinv (harg1.unread x0) ⟨n, hn⟩] at hp
    rcases List.mem_append.1 hp with hp | hp
    · exact pieces_agree c i arg1 harg1 arg2 harg2 arg3 harg3 arg4 harg4 x0 first last x1 s ⟨n, hn⟩ p hp x
    · exact ih (Nat.le_of_succ_le hn) hp

/-- The trips before `n` cover the first `8n` planes of the second and third components. -/
theorem loopPieces_cover (n : ℕ) (hn : n ≤ k0_t1_loop.trips) (y : S3x16x256x256.Idx) (h0 : (y 0).val ≠ 0)
    (hhi : (y 1).val < 8 * n) :
    ∃ p ∈ loopPieces c i arg1 harg1 arg2 harg2 arg3 harg3 arg4 harg4 x0 n, y ∈ p.1.set := by
  induction n with
  | zero => omega
  | succ n ih =>
    unfold loopPieces
    rw [pb_k0_t1_succ (F := Ideal) Variants.none c none i arg1 harg1 arg2 harg2 arg3 harg3 arg4 harg4 sinv (harg1.unread x0) ⟨n, hn⟩]
    by_cases h : (y 1).val < 8 * n
    · obtain ⟨p, hp, hy⟩ := ih (Nat.le_of_succ_le hn) h
      exact ⟨p, List.mem_append_right _ hp, hy⟩
    · obtain ⟨p, hp, hy⟩ := pieces_cover c i arg1 harg1 arg2 harg2 arg3 harg3 arg4 harg4 x0 ⟨n, hn⟩ y h0
        (Nat.le_of_not_lt h) (by show (y 1).val < 8 * n + 8; omega)
      exact ⟨p, List.mem_append_left _ hp, hy⟩

end

end Cert.Trip

end
-- ==== Proof.Store.lean ====
/- What the body leaves in its output block: at an interior point, at the first point and at the last, the specification's
   block whatever the buffer held. -/
module

public import proofs.«01_k».proof.Proof.Trip

@[expose] public section

set_option maxRecDepth 16384

noncomputable section

namespace Cert.Store

open Idealize.ShloMosaic Idealize.ShloMosaic.TcCoe Cert.Cube Cert.Spec Cert.Payload Cert.Trip Cert.KernelIdeal Cert.KernelIdeal.Gen

/-- Planes `o, …, o + n − 1` of the loaded block, as the body loads them. -/
abbrev planes (arg1 : Memref sig .tc .vmem S16x256x256 .f32) (harg1 : arg1.IsWhole) (x0 : S16x256x256.Idx → EReal) (o n : ℕ)
    (inb : ∀ a, (![o, 0, 0] : Fin 3 → ℕ) a + (![n, 256, 256] : Fin 3 → ℕ) a ≤ S16x256x256.size a) :
    (⟨3, ![n, 256, 256]⟩ : Shape).Idx → EReal :=
  View.readAt (Elt Ideal) arg1.view (Rect.unit (s := S16x256x256) ![o, 0, 0] ![n, 256, 256] inb).toLoadRect (harg1.unread x0)

/-- The whole of a one-plane memref, as the body loads it. -/
abbrev onePlane (arg : Memref sig .tc .vmem S1x256x256 .f32) (harg : arg.IsWhole) (x : S1x256x256.Idx → EReal) : S1x256x256.Idx → EReal :=
  View.readAt (Elt Ideal) arg.view
    (Rect.unit (s := S1x256x256) ![0, 0, 0] S1x256x256.size inb_S1x256x256_S1x256x256_0_0_0).toLoadRect (harg.unread x)

section
variable (c : Dev nD) (i : grid0.Coords) (arg1 : Memref sig .tc .vmem S16x256x256 .f32) (harg1 : arg1.IsWhole)
  (arg2 : Memref sig .tc .vmem S1x256x256 .f32) (harg2 : arg2.IsWhole) (arg3 : Memref sig .tc .vmem S3x16x256x256 .f32)
  (harg3 : arg3.IsWhole) (arg4 : Memref sig .tc .vmem S1x256x256 .f32) (harg4 : arg4.IsWhole)
  (x0 : S16x256x256.Idx → EReal) (x1 s : S1x256x256.Idx → EReal)

/-- The planes the body loads, element by element. -/
theorem planes_at (o n : ℕ) (inb) {p q r p' : ℕ} (h0 : p < n) (h1 : q < 256) (h2 : r < 256) (e : o + p = p') :
    at3 (planes arg1 harg1 x0 o n inb) p q r = at3 x0 p' q r :=
  load_at arg1 harg1 x0 _ inb h0 h1 h2 e (Nat.zero_add _) (Nat.zero_add _)

/-- A one-plane memref's plane, element by element. -/
theorem onePlane_at (arg : Memref sig .tc .vmem S1x256x256 .f32) (harg : arg.IsWhole) (x : S1x256x256.Idx → EReal) {p q r : ℕ}
    (h0 : p < 1) (h1 : q < 256) (h2 : r < 256) : at3 (onePlane arg harg x) p q r = at3 x 0 q r :=
  load_at arg harg x _ inb_S1x256x256_S1x256x256_0_0_0 h0 h1 h2 ((Nat.zero_add _).trans (Nat.lt_one_iff.1 h0)) (Nat.zero_add _)
    (Nat.zero_add _)

/-- The three stores of the first component: the interior planes, then the first plane, then the last. -/
abbrev planePieces : List (View.Piece (Elt Ideal) S3x16x256x256 .f32) :=
  [⟨Rect.unit (s := S3x16x256x256) ![0, 15, 0, 0] S1x1x256x256.size inb_S3x16x256x256_S1x1x256x256_0_15_0_0,
      k0_pay11 (F := Ideal) (onePlane arg2 harg2 x1) (planes arg1 harg1 x0 14 1 inb_S16x256x256_S1x256x256_14_0_0)⟩,
    ⟨Rect.unit (s := S3x16x256x256) ![0, 0, 0, 0] S1x1x256x256.size inb_S3x16x256x256_S1x1x256x256_0_0_0_0,
      k0_pay10 (F := Ideal) (planes arg1 harg1 x0 1 1 inb_S16x256x256_S1x256x256_1_0_0) (onePlane arg4 harg4 s)⟩,
    ⟨Rect.unit (s := S3x16x256x256) ![0, 1, 0, 0] S1x14x256x256.size inb_S3x16x256x256_S1x14x256x256_0_1_0_0,
      k0_pay9 (F := Ideal) (planes arg1 harg1 x0 2 14 inb_S16x256x256_S14x256x256_2_0_0)
        (planes arg1 harg1 x0 0 14 inb_S16x256x256_S14x256x256_0_0_0)⟩]

/-- Away from the two corrected planes, the difference across planes is the same whatever the point. -/
theorem planeDiff_inner (first last : Prop) [Decidable first] [Decidable last] (x : ℕ → EReal) (nxt car : EReal) (j : ℕ)
    (hf : ¬(first ∧ j = 0)) (hl : ¬(last ∧ j = 15)) :
    planeDiff first last x nxt car j = if j = 0 then x 1 * sinv - car else if j = 15 then (nxt - x 14) * sinv
      else (x (j + 1) - x (j - 1)) * sinv := by
  unfold planeDiff
  rw [if_neg hf, if_neg hl]

/-- The first component is the difference across planes, -/
theorem blockAt_zero (first last : Prop) [Decidable first] [Decidable last] (p q r : ℕ) :
    blockAt first last x0 x1 s 0 p q r
      = planeDiff first last (fun j => at3 x0 j q r) (at3 x1 0 q r) (at3 s 0 q r) p := rfl

/-- and the others do not depend on the point. -/
theorem blockAt_ne (first last : Prop) [Decidable first] [Decidable last] (a p q r : ℕ) (h : a ≠ 0) :
    blockAt False False x0 x1 s a p q r = blockAt first last x0 x1 s a p q r :=
  match a, h with
  | 0, h => absurd rfl h
  | 1, _ => rfl
  | _ + 2, _ => rfl

/-- Each of the three stores holds the specification's elements where neither plane is corrected. -/
theorem planePieces_agree (p : View.Piece (Elt Ideal) S3x16x256x256 .f32)
    (hp : p ∈ planePieces arg1 harg1 arg2 harg2 arg4 harg4 x0 x1 s) (x : p.1.shape.Idx) :
    p.2 x = block False False x0 x1 s (p.1.emb x) := by
  rcases List.mem_cons.1 hp with rfl | hp
  · have h0 : (x 0).val < 1 := (x 0).isLt
    have h1 : (x 1).val < 1 := (x 1).isLt
    refine (pay11_at _ _ x).trans (Eq.trans ?_ (block_emb False False x0 x1 s _ _ inb_S3x16x256x256_S1x1x256x256_0_15_0_0 x
      (a := 0) (i := 15) ((Nat.zero_add _).trans (Nat.lt_one_iff.1 h0)) (congrArg (15 + ·) (Nat.lt_one_iff.1 h1))
      (Nat.zero_add _) (Nat.zero_add _)).symm)
    rw [onePlane_at arg2 harg2 x1 h1 (x 2).isLt (x 3).isLt,
      planes_at arg1 harg1 x0 14 1 _ h1 (x 2).isLt (x 3).isLt (p' := 14) (congrArg (14 + ·) (Nat.lt_one_iff.1 h1))]
    exact ((blockAt_zero x0 x1 s False False 15 _ _).trans (planeDiff_inner False False _ _ _ 15 (fun h => h.1) (fun h => h.1))).symm
  rcases List.mem_cons.1 hp with rfl | hp
  · have h0 : (x 0).val < 1 := (x 0).isLt
    have h1 : (x 1).val < 1 := (x 1).isLt
    refine (pay10_at _ _ x).trans (Eq.trans ?_ (block_emb False False x0 x1 s _ _ inb_S3x16x256x256_S1x1x256x256_0_0_0_0 x
      (a := 0) (i := 0) ((Nat.zero_add _).trans (Nat.lt_one_iff.1 h0)) ((Nat.zero_add _).trans (Nat.lt_one_iff.1 h1))
      (Nat.zero_add _) (Nat.zero_add _)).symm)
    rw [onePlane_at arg4 harg4 s h1 (x 2).isLt (x 3).isLt,
      planes_at arg1 harg1 x0 1 1 _ h1 (x 2).isLt (x 3).isLt (p' := 1) (congrArg (1 + ·) (Nat.lt_one_iff.1 h1))]
    exact ((blockAt_zero x0 x1 s False False 0 _ _).trans (planeDiff_inner False False _ _ _ 0 (fun h => h.1) (fun h => h.1))).symm
  · obtain rfl := List.mem_singleton.1 hp
    have h0 : (x 0).val < 1 := (x 0).isLt
    have h1 : (x 1).val < 14 := (x 1).isLt
    refine (pay9_at _ _ x).trans (Eq.trans ?_ (block_emb False False x0 x1 s _ _ inb_S3x16x256x256_S1x14x256x256_0_1_0_0 x
      (a := 0) (i := 1 + (x 1).val) ((Nat.zero_add _).trans (Nat.lt_one_iff.1 h0)) rfl
      (Nat.zero_add _) (Nat.zero_add _)).symm)
    rw [planes_at arg1 harg1 x0 2 14 _ h1 (x 2).isLt (x 3).isLt (p' := 1 + (x 1).val + 1) (by omega),
      planes_at arg1 harg1 x0 0 14 _ h1 (x 2).isLt (x 3).isLt (p' := 1 + (x 1).val - 1) (by omega)]
    refine Eq.trans ?_ ((blockAt_zero x0 x1 s False False (1 + (x 1).val) _ _).trans
      (planeDiff_inner False False _ _ _ (1 + (x 1).val) (fun h => h.1) (fun h => h.1))).symm
    rw [if_neg (by omega), if_neg (by omega)]

/-- The three stores cover the first component. -/
theorem planePieces_cover (y : S3x16x256x256.Idx) (h0 : (y 0).val = 0) :
    ∃ p ∈ planePieces arg1 harg1 arg2 harg2 arg4 harg4 x0 x1 s, y ∈ p.1.set := by
  have b1 : (y 1).val < 16 := (y 1).isLt
  have b2 : (y 2).val < 256 := (y 2).isLt
  have b3 : (y 3).val < 256 := (y 3).isLt
  by_cases h : (y 1).val = 15
  · refine ⟨_, List.mem_cons_self, ?_⟩
    show y ∈ (Rect.unit (s := S3x16x256x256) ![0, 15, 0, 0] S1x1x256x256.size inb_S3x16x256x256_S1x1x256x256_0_15_0_0).set
    rw [Rect.mem_set_unit]
    intro a
    match a with
    | ⟨0, _⟩ => exact (⟨by omega, by omega⟩ : 0 ≤ (y 0).val ∧ (y 0).val < 0 + 1)
    | ⟨1, _⟩ => exact (⟨by omega, by omega⟩ : 15 ≤ (y 1).val ∧ (y 1).val < 15 + 1)
    | ⟨2, _⟩ => exact (⟨by omega, by omega⟩ : 0 ≤ (y 2).val ∧ (y 2).val < 0 + 256)
    | ⟨3, _⟩ => exact (⟨by omega, by omega⟩ : 0 ≤ (y 3).val ∧ (y 3).val < 0 + 256)
  by_cases h' : (y 1).val = 0
  · refine ⟨_, List.mem_cons_of_mem _ List.mem_cons_self, ?_⟩
    show y ∈ (Rect.unit (s := S3x16x256x256) ![0, 0, 0, 0] S1x1x256x256.size inb_S3x16x256x256_S1x1x256x256_0_0_0_0).set
    rw [Rect.mem_set_unit]
    intro a
    match a with
    | ⟨0, _⟩ => exact (⟨by omega, by omega⟩ : 0 ≤ (y 0).val ∧ (y 0).val < 0 + 1)
    | ⟨1, _⟩ => exact (⟨by omega, by omega⟩ : 0 ≤ (y 1).val ∧ (y 1).val < 0 + 1)
    | ⟨2, _⟩ => exact (⟨by omega, by omega⟩ : 0 ≤ (y 2).val ∧ (y 2).val < 0 + 256)
    | ⟨3, _⟩ => exact (⟨by omega, by omega⟩ : 0 ≤ (y 3).val ∧ (y 3).val < 0 + 256)
  · refine ⟨_, List.mem_cons_of_mem _ (List.mem_cons_of_mem _ List.mem_cons_self), ?_⟩
    show y ∈ (Rect.unit (s := S3x16x256x256) ![0, 1, 0, 0] S1x14x256x256.size inb_S3x16x256x256_S1x14x256x256_0_1_0_0).set
    rw [Rect.mem_set_unit]
    intro a
    match a with
    | ⟨0, _⟩ => exact (⟨by omega, by omega⟩ : 0 ≤ (y 0).val ∧ (y 0).val < 0 + 1)
    | ⟨1, _⟩ => exact (⟨by omega, by omega⟩ : 1 ≤ (y 1).val ∧ (y 1).val < 1 + 14)
    | ⟨2, _⟩ => exact (⟨by omega, by omega⟩ : 0 ≤ (y 2).val ∧ (y 2).val < 0 + 256)
    | ⟨3, _⟩ => exact (⟨by omega, by omega⟩ : 0 ≤ (y 3).val ∧ (y 3).val < 0 + 256)

/-- The loop has two trips. -/
theorem trips_eq : k0_t1_loop.trips = 2 := by decide

/-- The stores every point makes: the first component's three, then the loop's. -/
abbrev basePieces : List (View.Piece (Elt Ideal) S3x16x256x256 .f32) :=
  loopPieces c i arg1 harg1 arg2 harg2 arg3 harg3 arg4 harg4 x0 k0_t1_loop.trips
    ++ planePieces arg1 harg1 arg2 harg2 arg4 harg4 x0 x1 s

/-- They leave the specification's uncorrected block. -/
theorem read_base (f : BufTy.Contents (Elt Ideal) arg3.view.ty) (y : S3x16x256x256.Idx) :
    View.read (Elt Ideal) arg3.view (arg3.view.writes (Elt Ideal) f
      (basePieces c i arg1 harg1 arg2 harg2 arg3 harg3 arg4 harg4 x0 x1 s)) y = block False False x0 x1 s y := by
  have b1 : (y 1).val < 16 := (y 1).isLt
  refine View.read_writes_apply_of_pieces arg3.view f (block False False x0 x1 s) _ (fun p hp x => ?_) y ?_
  · rcases List.mem_append.1 hp with hp | hp
    · exact loopPieces_agree c i arg1 harg1 arg2 harg2 arg3 harg3 arg4 harg4 x0 False False x1 s _ le_rfl p hp x
    · exact planePieces_agree arg1 harg1 arg2 harg2 arg4 harg4 x0 x1 s p hp x
  · by_cases h0 : (y 0).val = 0
    · obtain ⟨p, hp, hy⟩ := planePieces_cover arg1 harg1 arg2 harg2 arg4 harg4 x0 x1 s y h0
      exact ⟨p, List.mem_append_right _ hp, hy⟩
    · obtain ⟨p, hp, hy⟩ := loopPieces_cover c i arg1 harg1 arg2 harg2 arg3 harg3 arg4 harg4 x0 k0_t1_loop.trips le_rfl y h0
        (by rw [trips_eq]; omega)
      exact ⟨p, List.mem_append_left _ hp, hy⟩

/-- Off the corrected planes, a block is the uncorrected one. -/
theorem block_inner (first last : Prop) [Decidable first] [Decidable last] (y : S3x16x256x256.Idx)
    (hf : ¬(first ∧ (y 0).val = 0 ∧ (y 1).val = 0)) (hl : ¬(last ∧ (y 0).val = 0 ∧ (y 1).val = 15)) :
    block False False x0 x1 s y = block first last x0 x1 s y := by
  unfold block
  by_cases h0 : (y 0).val = 0
  · rw [h0, blockAt_zero, blockAt_zero, planeDiff_inner False False _ _ _ _ (fun h => h.1) (fun h => h.1),
      planeDiff_inner first last _ _ _ _ (fun h => hf ⟨h.1, h0, h.2⟩) (fun h => hl ⟨h.1, h0, h.2⟩)]
  · exact blockAt_ne x0 x1 s first last _ _ _ _ h0

/-- At a point that is neither the first nor the last the block is the specification's. -/
theorem read_mid (first last : Prop) [Decidable first] [Decidable last] (hf : ¬first) (hl : ¬last)
    (f : BufTy.Contents (Elt Ideal) arg3.view.ty) :
    View.read (Elt Ideal) arg3.view (arg3.view.writes (Elt Ideal) f
      (basePieces c i arg1 harg1 arg2 harg2 arg3 harg3 arg4 harg4 x0 x1 s)) = block first last x0 x1 s :=
  funext fun y => (read_base c i arg1 harg1 arg2 harg2 arg3 harg3 arg4 harg4 x0 x1 s f y).trans
    (block_inner x0 x1 s first last y (fun h => hf h.1) (fun h => hl h.1))

/-- At the first point, one more store corrects the first plane. -/
theorem read_first (first last : Prop) [Decidable first] [Decidable last] (hf : first) (hl : ¬last)
    (f : BufTy.Contents (Elt Ideal) arg3.view.ty) :
    View.read (Elt Ideal) arg3.view (arg3.view.writes (Elt Ideal) f
      (⟨Rect.unit (s := S3x16x256x256) ![0, 0, 0, 0] S1x1x256x256.size inb_S3x16x256x256_S1x1x256x256_0_0_0_0,
          k0_pay3 (F := Ideal) (planes arg1 harg1 x0 1 1 inb_S16x256x256_S1x256x256_1_0_0)
            (planes arg1 harg1 x0 0 1 inb_S16x256x256_S1x256x256_0_0_0) (planes arg1 harg1 x0 2 1 inb_S16x256x256_S1x256x256_2_0_0)⟩
        :: basePieces c i arg1 harg1 arg2 harg2 arg3 harg3 arg4 harg4 x0 x1 s)) = block first last x0 x1 s := by
  funext y
  have b2 : (y 2).val < 256 := (y 2).isLt
  have b3 : (y 3).val < 256 := (y 3).isLt
  by_cases h0 : (y 0).val = 0
  · by_cases h1 : (y 1).val = 0
    · refine (View.read_writes_cons_unit_of_mem arg3.view f inb_S3x16x256x256_S1x1x256x256_0_0_0_0 _ _ y
        (ValueIdx.ix4 0 0 ⟨(y 2).val, b2⟩ ⟨(y 3).val, b3⟩) rfl fun a => ?_).trans ?_
      · match a with
        | ⟨0, _⟩ => exact h0
        | ⟨1, _⟩ => exact h1
        | ⟨2, _⟩ => exact (Nat.zero_add _).symm
        | ⟨3, _⟩ => exact (Nat.zero_add _).symm
      · refine (pay3_at _ _ _ _).trans ?_
        show ((at3 _ 0 (y 2).val (y 3).val - c15 * at3 _ 0 (y 2).val (y 3).val) + c05 * at3 _ 0 (y 2).val (y 3).val) * sinv = _
        rw [planes_at arg1 harg1 x0 1 1 _ Nat.one_pos b2 b3 (p' := 1) rfl,
          planes_at arg1 harg1 x0 0 1 _ Nat.one_pos b2 b3 (p' := 0) rfl,
          planes_at arg1 harg1 x0 2 1 _ Nat.one_pos b2 b3 (p' := 2) rfl]
        unfold block
        rw [h0, h1]
        unfold blockAt planeDiff
        exact (if_pos ⟨hf, rfl⟩).symm
    · refine (View.read_writes_cons_unit_of_not_mem arg3.view f inb_S3x16x256x256_S1x1x256x256_0_0_0_0 _ _ y rfl 1
        (.inr (by show 0 + 1 ≤ (y 1).val; omega))).trans ?_
      exact (read_base c i arg1 harg1 arg2 harg2 arg3 harg3 arg4 harg4 x0 x1 s f y).trans
        (block_inner x0 x1 s first last y (fun h => h1 h.2.2) (fun h => hl h.1))
  · refine (View.read_writes_cons_unit_of_not_mem arg3.view f inb_S3x16x256x256_S1x1x256x256_0_0_0_0 _ _ y rfl 0
      (.inr (by show 0 + 1 ≤ (y 0).val; omega))).trans ?_
    exact (read_base c i arg1 harg1 arg2 harg2 arg3 harg3 arg4 harg4 x0 x1 s f y).trans
      (block_inner x0 x1 s first last y (fun h => h0 h.2.1) (fun h => hl h.1))

/-- At the last point, one more store corrects the last plane. -/
theorem read_last (first last : Prop) [Decidable first] [Decidable last] (hf : ¬first) (hl : last)
    (f : BufTy.Contents (Elt Ideal) arg3.view.ty) :
    View.read (Elt Ideal) arg3.view (arg3.view.writes (Elt Ideal) f
      (⟨Rect.unit (s := S3x16x256x256) ![0, 15, 0, 0] S1x1x256x256.size inb_S3x16x256x256_S1x1x256x256_0_15_0_0,
          k0_pay4 (F := Ideal) (planes arg1 harg1 x0 15 1 inb_S16x256x256_S1x256x256_15_0_0)
            (planes arg1 harg1 x0 14 1 inb_S16x256x256_S1x256x256_14_0_0) (planes arg1 harg1 x0 13 1 inb_S16x256x256_S1x256x256_13_0_0)⟩
        :: basePieces c i arg1 harg1 arg2 harg2 arg3 harg3 arg4 harg4 x0 x1 s)) = block first last x0 x1 s := by
  funext y
  have b1 : (y 1).val < 16 := (y 1).isLt
  have b2 : (y 2).val < 256 := (y 2).isLt
  have b3 : (y 3).val < 256 := (y 3).isLt
  by_cases h0 : (y 0).val = 0
  · by_cases h1 : (y 1).val = 15
    · refine (View.read_writes_cons_unit_of_mem arg3.view f inb_S3x16x256x256_S1x1x256x256_0_15_0_0 _ _ y
        (ValueIdx.ix4 0 0 ⟨(y 2).val, b2⟩ ⟨(y 3).val, b3⟩) rfl fun a => ?_).trans ?_
      · match a with
        | ⟨0, _⟩ => exact h0
        | ⟨1, _⟩ => exact h1
        | ⟨2, _⟩ => exact (Nat.zero_add _).symm
        | ⟨3, _⟩ => exact (Nat.zero_add _).symm
      · refine (pay4_at _ _ _ _).trans ?_
        show ((c15 * at3 _ 0 (y 2).val (y 3).val - at3 _ 0 (y 2).val (y 3).val) - c05 * at3 _ 0 (y 2).val (y 3).val) * sinv = _
        rw [planes_at arg1 harg1 x0 15 1 _ Nat.one_pos b2 b3 (p' := 15) rfl,
          planes_at arg1 harg1 x0 14 1 _ Nat.one_pos b2 b3 (p' := 14) rfl,
          planes_at arg1 harg1 x0 13 1 _ Nat.one_pos b2 b3 (p' := 13) rfl]
        unfold block
        rw [h0, h1]
        unfold blockAt planeDiff
        exact ((if_neg fun h => hf h.1).trans (if_pos ⟨hl, rfl⟩)).symm
    · refine (View.read_writes_cons_unit_of_not_mem arg3.view f inb_S3x16x256x256_S1x1x256x256_0_15_0_0 _ _ y rfl 1
        (.inl (by show (y 1).val < 15; omega))).trans ?_
      exact (read_base c i arg1 harg1 arg2 harg2 arg3 harg3 arg4 harg4 x0 x1 s f y).trans
        (block_inner x0 x1 s first last y (fun h => hf h.1) (fun h => h1 h.2.2))
  · refine (View.read_writes_cons_unit_of_not_mem arg3.view f inb_S3x16x256x256_S1x1x256x256_0_15_0_0 _ _ y rfl 0
      (.inr (by show 0 + 1 ≤ (y 0).val; omega))).trans ?_
    exact (read_base c i arg1 harg1 arg2 harg2 arg3 harg3 arg4 harg4 x0 x1 s f y).trans
      (block_inner x0 x1 s first last y (fun h => hf h.1) (fun h => h0 h.2.1))

/-- The plane the body leaves in the scratch: the block's last plane, scaled. -/
theorem read_carry (f : BufTy.Contents (Elt Ideal) arg4.view.ty) :
    View.read (Elt Ideal) arg4.view (arg4.view.writes (Elt Ideal) f
      [⟨Rect.unit (s := S1x256x256) ![0, 0, 0] S1x256x256.size inb_S1x256x256_S1x256x256_0_0_0,
        k0_pay1 (F := Ideal) (planes arg1 harg1 x0 15 1 inb_S16x256x256_S1x256x256_15_0_0)⟩])
      = fun y => at3 x0 15 (y 1).val (y 2).val * sinv := by
  funext y
  have h0 : (y 0).val < 1 := (y 0).isLt
  refine (View.read_writes_cons_unit_of_mem arg4.view f inb_S1x256x256_S1x256x256_0_0_0 _ _ y y rfl fun a => ?_).trans ?_
  · match a with
    | ⟨0, _⟩ => exact (Nat.zero_add _).symm
    | ⟨1, _⟩ => exact (Nat.zero_add _).symm
    | ⟨2, _⟩ => exact (Nat.zero_add _).symm
  · refine (eq_at3 _ y).trans ((pay1_at _ _ _ _).trans (congrArg (· * sinv) ?_))
    exact planes_at arg1 harg1 x0 15 1 _ h0 (y 1).isLt (y 2).isLt (congrArg (15 + ·) (Nat.lt_one_iff.1 h0))

end

end Cert.Store

end
-- ==== Proof.Body.lean ====
/- The kernel's body run at each kind of point: the output block is left at the specification's block, and the scratch at the
   block's last plane, scaled. -/
module

public import proofs.«01_k».proof.Proof.Store

@[expose] public section

set_option maxRecDepth 16384

noncomputable section

namespace Cert.KernelIdeal.Grad

open Cert.KernelIdeal Cert.KernelIdeal.Gen Cert.Cube Cert.Spec Cert.Trip Cert.Store
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The plane a point leaves in the scratch: the last plane of its block, scaled. -/
abbrev lastPlane (x0 : S16x256x256.Idx → EReal) : Vec Ideal S1x256x256 .f32 := fun y => at3 x0 15 (y 1).val (y 2).val * sinv

set_option maxHeartbeats 1000000

/-- The body at the first point. -/
theorem body_first (c : Dev nD) (i : grid0.Coords) (arg1 : Memref sig .tc .vmem S16x256x256 .f32) (harg1 : arg1.IsWhole)
    (arg2 : Memref sig .tc .vmem S1x256x256 .f32) (harg2 : arg2.IsWhole) (arg3 : Memref sig .tc .vmem S3x16x256x256 .f32)
    (harg3 : arg3.IsWhole) (arg4 : Memref sig .tc .vmem S1x256x256 .f32) (harg4 : arg4.IsWhole)
    (hc0 : isFirst i) (hc1 : ¬isLast i) (first last : Prop) [Decidable first] [Decidable last] (hf : first) (hl : ¬last)
    (x0 : Vec Ideal S16x256x256 .f32) (x1 : Vec Ideal S1x256x256 .f32) (s : Vec Ideal S1x256x256 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (block first last x0 x1 s)
            ∗ owns (c : Thread nD τ) arg4 fullShare (lastPlane x0)) -∗ K ⟨⟩))
      ⊢ wp frame (wpE (defs₀ (F := Ideal)) Variants.none c none) E (cc0__normals_body i arg1 harg1 arg2 harg2 arg3 harg3 arg4 harg4) K := by
  simp only [cc0__normals_body_eq_skeleton]; unfold cc0__normals_body_skel
  simp only [k0_part2_eq_skeleton]
  unfold owns
  iintro ⟨⟨%f0, %hf0, H0⟩, ⟨%f1, %hf1, H1⟩, ⟨%d2, %f2, -, H2⟩, ⟨%f3, %hf3, HS0⟩, Hk⟩
  obtain rfl := harg1.eq_unread hf0; obtain rfl := harg2.eq_unread hf1; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact read_first c i arg1 harg1 arg2 harg2 arg3 harg3 arg4 harg4 x0 x1 s first last hf hl _
  iexists _; isplitr; swap; · iexact HS0
  ipureintro
  exact read_carry arg1 harg1 arg4 x0 _

/-- The body at a point between the first and the last. -/
theorem body_mid (c : Dev nD) (i : grid0.Coords) (arg1 : Memref sig .tc .vmem S16x256x256 .f32) (harg1 : arg1.IsWhole)
    (arg2 : Memref sig .tc .vmem S1x256x256 .f32) (harg2 : arg2.IsWhole) (arg3 : Memref sig .tc .vmem S3x16x256x256 .f32)
    (harg3 : arg3.IsWhole) (arg4 : Memref sig .tc .vmem S1x256x256 .f32) (harg4 : arg4.IsWhole)
    (hc0 : ¬isFirst i) (hc1 : ¬isLast i) (first last : Prop) [Decidable first] [Decidable last] (hf : ¬first) (hl : ¬last)
    (x0 : Vec Ideal S16x256x256 .f32) (x1 : Vec Ideal S1x256x256 .f32) (s : Vec Ideal S1x256x256 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (block first last x0 x1 s)
            ∗ owns (c : Thread nD τ) arg4 fullShare (lastPlane x0)) -∗ K ⟨⟩))
      ⊢ wp frame (wpE (defs₀ (F := Ideal)) Variants.none c none) E (cc0__normals_body i arg1 harg1 arg2 harg2 arg3 harg3 arg4 harg4) K := by
  simp only [cc0__normals_body_eq_skeleton]; unfold cc0__normals_body_skel
  simp only [k0_part2_eq_skeleton]
  unfold owns
  iintro ⟨⟨%f0, %hf0, H0⟩, ⟨%f1, %hf1, H1⟩, ⟨%d2, %f2, -, H2⟩, ⟨%f3, %hf3, HS0⟩, Hk⟩
  obtain rfl := harg1.eq_unread hf0; obtain rfl := harg2.eq_unread hf1; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact read_mid c i arg1 harg1 arg2 harg2 arg3 harg3 arg4 harg4 x0 x1 s first last hf hl _
  iexists _; isplitr; swap; · iexact HS0
  ipureintro
  exact read_carry arg1 harg1 arg4 x0 _

/-- The body at the last point. -/
theorem body_last (c : Dev nD) (i : grid0.Coords) (arg1 : Memref sig .tc .vmem S16x256x256 .f32) (harg1 : arg1.IsWhole)
    (arg2 : Memref sig .tc .vmem S1x256x256 .f32) (harg2 : arg2.IsWhole) (arg3 : Memref sig .tc .vmem S3x16x256x256 .f32)
    (harg3 : arg3.IsWhole) (arg4 : Memref sig .tc .vmem S1x256x256 .f32) (harg4 : arg4.IsWhole)
    (hc0 : ¬isFirst i) (hc1 : isLast i) (first last : Prop) [Decidable first] [Decidable last] (hf : ¬first) (hl : last)
    (x0 : Vec Ideal S16x256x256 .f32) (x1 : Vec Ideal S1x256x256 .f32) (s : Vec Ideal S1x256x256 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (block first last x0 x1 s)
            ∗ owns (c : Thread nD τ) arg4 fullShare (lastPlane x0)) -∗ K ⟨⟩))
      ⊢ wp frame (wpE (defs₀ (F := Ideal)) Variants.none c none) E (cc0__normals_body i arg1 harg1 arg2 harg2 arg3 harg3 arg4 harg4) K := by
  simp only [cc0__normals_body_eq_skeleton]; unfold cc0__normals_body_skel
  simp only [k0_part2_eq_skeleton]
  unfold owns
  iintro ⟨⟨%f0, %hf0, H0⟩, ⟨%f1, %hf1, H1⟩, ⟨%d2, %f2, -, H2⟩, ⟨%f3, %hf3, HS0⟩, Hk⟩
  obtain rfl := harg1.eq_unread hf0; obtain rfl := harg2.eq_unread hf1; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact read_last c i arg1 harg1 arg2 harg2 arg3 harg3 arg4 harg4 x0 x1 s first last hf hl _
  iexists _; isplitr; swap; · iexact HS0
  ipureintro
  exact read_carry arg1 harg1 arg4 x0 _

end Cert.KernelIdeal.Grad

end
-- ==== Proof.Blocks.lean ====
/- The blocks of the two inputs and of the output as elements of the whole arrays: point `t` loads planes `16t … 16t + 15` of
   the grid and the plane after them (the last plane again at the last point), and writes the same planes of the output. -/
module

public import proofs.«01_k».proof.Proof.Body
public import Idealize.ShloMosaic.Lib.Pipeline.ValueKit.Geometry

@[expose] public section

set_option maxRecDepth 16384

noncomputable section

namespace Cert.KernelIdeal.Grad

open Cert.KernelIdeal Cert.KernelIdeal.Gen Cert.Cube Cert.Spec Cert.Trip Cert.Store
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The grid that device `c` holds. -/
abbrev grid (c : Dev nD) : S256x256x256.Idx → EReal := m ((c : Thread nD τ).loc main_arg0)

/-- The block of planes moves with the point, -/
theorem index_in : ∀ t : Fin cfg0.N, win0_0.index t 0 = t.val ∧ win0_0.index t 1 = 0 ∧ win0_0.index t 2 = 0 := by
  decide +kernel
/-- so does the plane after the block, held at the last plane, -/
theorem index_next : ∀ t : Fin cfg0.N, win0_1.index t 0 = min (t.val * 16 + 16) 255 ∧ win0_1.index t 1 = 0
    ∧ win0_1.index t 2 = 0 := by
  decide +kernel
/-- and so does the output's block. -/
theorem index_out : ∀ t : Fin cfg0.N, win0_2.index t 0 = 0 ∧ win0_2.index t 1 = t.val ∧ win0_2.index t 2 = 0
    ∧ win0_2.index t 3 = 0 := by
  decide +kernel

/-- An element of the block of planes loaded at point `t`. -/
theorem in_at (c : Dev nD) (t : Fin cfg0.N) {i j k : ℕ} (hi : i < 16) (hj : j < 256) (hk : k < 256) :
    at3 (n0 := 16) (n1 := 256) (n2 := 256) (iblk m c 0 t) i j k = at3 (grid m c) (t.val * 16 + i) j k := by
  obtain ⟨e0, e1, e2⟩ := index_in t
  refine (at3_of_lt _ hi hj hk).trans (eq_at3_of (grid m c) (((cfg0.win 0).blk t).view.emb (ValueIdx.ix3 ⟨i, hi⟩ ⟨j, hj⟩ ⟨k, hk⟩)) ?_ ?_ ?_)
  · refine (ValueKit.view_emb_slice_whole_unit_val _ _ _ _ _ 0).trans ?_
    show win0_0.index t 0 * 16 + i = _
    rw [e0]
  · refine (ValueKit.view_emb_slice_whole_unit_val _ _ _ _ _ 1).trans ?_
    show win0_0.index t 1 * 256 + j = _
    rw [e1]; omega
  · refine (ValueKit.view_emb_slice_whole_unit_val _ _ _ _ _ 2).trans ?_
    show win0_0.index t 2 * 256 + k = _
    rw [e2]; omega

/-- An element of the plane loaded after the block. -/
theorem next_at (c : Dev nD) (t : Fin cfg0.N) {j k : ℕ} (hj : j < 256) (hk : k < 256) :
    at3 (n0 := 1) (n1 := 256) (n2 := 256) (iblk m c 1 t) 0 j k = at3 (grid m c) (min (t.val * 16 + 16) 255) j k := by
  obtain ⟨e0, e1, e2⟩ := index_next t
  refine (at3_of_lt _ Nat.one_pos hj hk).trans (eq_at3_of (grid m c) (((cfg0.win 1).blk t).view.emb (ValueIdx.ix3 ⟨0, Nat.one_pos⟩ ⟨j, hj⟩ ⟨k, hk⟩)) ?_ ?_ ?_)
  · refine (ValueKit.view_emb_slice_whole_unit_val _ _ _ _ _ 0).trans ?_
    show win0_1.index t 0 * 1 + 0 = _
    rw [e0]; omega
  · refine (ValueKit.view_emb_slice_whole_unit_val _ _ _ _ _ 1).trans ?_
    show win0_1.index t 1 * 256 + j = _
    rw [e1]; omega
  · refine (ValueKit.view_emb_slice_whole_unit_val _ _ _ _ _ 2).trans ?_
    show win0_1.index t 2 * 256 + k = _
    rw [e2]; omega

/-- The plane carried into point `n`: the plane before the point's block, scaled. -/
abbrev carry (c : Dev nD) (n : ℕ) : Vec Ideal S1x256x256 .f32 := fun y => at3 (grid m c) (n * 16 - 1) (y 1).val (y 2).val * sinv

/-- The plane a point leaves in the scratch is the one carried into the next. -/
theorem lastPlane_eq (c : Dev nD) (t : Fin cfg0.N) : lastPlane (iblk m c 0 t) = carry m c (t.val + 1) := by
  funext y
  refine congrArg (· * sinv) ((in_at m c t (by decide) (y 1).isLt (y 2).isLt).trans ?_)
  rw [show (t.val + 1) * 16 - 1 = t.val * 16 + 15 by omega]

/-- What point `t` leaves in the output's block. -/
abbrev outBlock (c : Dev nD) (t : Fin cfg0.N) : Vec Ideal S3x16x256x256 .f32 :=
  block (t.val = 0) (t.val = 15) (iblk m c 0 t) (iblk m c 1 t) (carry m c t.val)

/-- Off the first component neither the carried plane nor the plane after the block is read. -/
theorem blockAt_ne' (x0 : S16x256x256.Idx → EReal) (x1 s s' : S1x256x256.Idx → EReal) (a i j k : ℕ) (h : a ≠ 0) :
    blockAt False False x0 x1 s a i j k = blockAt False False x0 x1 s' a i j k :=
  match a, h with
  | 0, h => absurd rfl h
  | 1, _ => rfl
  | _ + 2, _ => rfl

/-- A plane difference depends on the block's 16 planes, the next plane and the carried plane only. -/
theorem planeDiff_congr (first last : Prop) [Decidable first] [Decidable last] {x w : ℕ → EReal} {nxt nxt' car car' : EReal}
    (h : ∀ q, q < 16 → x q = w q) (hn : nxt = nxt') (hc : car = car') {i : ℕ} (hi : i < 16) :
    planeDiff first last x nxt car i = planeDiff first last w nxt' car' i := by
  subst hn hc
  unfold planeDiff
  rw [h 0 (by omega), h 1 (by omega), h 2 (by omega), h 13 (by omega), h 14 (by omega), h 15 (by omega)]
  split_ifs with h1 h2 h3 h4
  · rfl
  · rfl
  · rfl
  · rfl
  · rw [h (i + 1) (by omega), h (i - 1) (by omega)]

/-- At the first point the carried plane is not read. -/
theorem block_first (first last : Prop) [Decidable first] [Decidable last] (hf : first) (x0 : S16x256x256.Idx → EReal)
    (x1 s s' : S1x256x256.Idx → EReal) : block first last x0 x1 s = block first last x0 x1 s' := by
  funext y
  unfold block
  by_cases h0 : (y 0).val = 0
  · rw [h0, blockAt_zero, blockAt_zero]
    unfold planeDiff
    by_cases h1 : (y 1).val = 0
    · rw [if_pos ⟨hf, h1⟩, if_pos ⟨hf, h1⟩]
    · rw [if_neg h1, if_neg h1]
  · exact (blockAt_ne x0 x1 s first last _ _ _ _ h0).symm.trans
      ((blockAt_ne' x0 x1 s s' _ _ _ _ h0).trans (blockAt_ne x0 x1 s' first last _ _ _ _ h0))

/-- What a point leaves, element by element, is the whole output's element. -/
theorem outBlock_eq (c : Dev nD) (t : Fin cfg0.N) (y : S3x16x256x256.Idx) :
    outBlock m c t y = wholeAt (grid m c) (y 0).val (t.val * 16 + (y 1).val) (y 2).val (y 3).val := by
  have b1 : (y 1).val < 16 := (y 1).isLt
  have b2 : (y 2).val < 256 := (y 2).isLt
  have b3 : (y 3).val < 256 := (y 3).isLt
  unfold outBlock block
  generalize hi : (y 1).val = i at *
  generalize hj : (y 2).val = j at *
  generalize hk : (y 3).val = k at *
  have hd : (t.val * 16 + i) / 16 = t.val := by omega
  have hm : (t.val * 16 + i) % 16 = i := by omega
  generalize (y 0).val = a
  match a with
  | 0 =>
    unfold wholeAt
    simp only [hd, hm]
    rw [blockAt_zero]
    refine planeDiff_congr _ _ (fun q hq => in_at m c t hq b2 b3) (next_at m c t b2 b3) ?_ b1
    exact at3_of_lt _ Nat.one_pos b2 b3
  | 1 => exact lineDiff_congr (fun q hq => congrArg (· * sinv) (in_at m c t b1 hq b3)) b2
  | _ + 2 => exact lineDiff_congr (fun q hq => congrArg (· * sinv) (in_at m c t b1 b2 hq)) b3

/-- The output's block at a point sits at the point's planes of the whole output, -/
theorem out_emb (t : Fin cfg0.N) (y : S3x16x256x256.Idx) :
    (((cfg0.win 2).blk t).view.emb y 0).val = (y 0).val ∧ (((cfg0.win 2).blk t).view.emb y 1).val = t.val * 16 + (y 1).val
    ∧ (((cfg0.win 2).blk t).view.emb y 2).val = (y 2).val ∧ (((cfg0.win 2).blk t).view.emb y 3).val = (y 3).val := by
  obtain ⟨e0, e1, e2, e3⟩ := index_out t
  refine ⟨?_, ?_, ?_, ?_⟩
  · refine (ValueKit.view_emb_slice_whole_unit_val _ _ _ _ _ 0).trans ?_
    show win0_2.index t 0 * 3 + _ = _
    rw [e0]; exact Nat.zero_add _
  · refine (ValueKit.view_emb_slice_whole_unit_val _ _ _ _ _ 1).trans ?_
    show win0_2.index t 1 * 16 + _ = _
    rw [e1]
  · refine (ValueKit.view_emb_slice_whole_unit_val _ _ _ _ _ 2).trans ?_
    show win0_2.index t 2 * 256 + _ = _
    rw [e2]; exact Nat.zero_add _
  · refine (ValueKit.view_emb_slice_whole_unit_val _ _ _ _ _ 3).trans ?_
    show win0_2.index t 3 * 256 + _ = _
    rw [e3]; exact Nat.zero_add _

/-- so what a point leaves is its block of the whole output, -/
theorem outBlock_read (c : Dev nD) (t : Fin cfg0.N) :
    outBlock m c t = ((cfg0.win 2).blk t).view.read (Elt Ideal) (whole (grid m c)) := by
  funext y
  obtain ⟨e0, e1, e2, e3⟩ := out_emb t y
  refine (outBlock_eq m c t y).trans ?_
  show _ = whole (grid m c) (((cfg0.win 2).blk t).view.emb y)
  unfold whole
  rw [e0, e1, e2, e3]

/-- and every index of the output is in some point's block. -/
theorem cover (i : S3x256x256x256.Idx) :
    ∃ t : Fin cfg0.N, (cfg0.win 2).flush t = true ∧ i ∈ ((cfg0.win 2).blk t).view.set := by
  have b0 : (i 0).val < 3 := (i 0).isLt
  have b1 : (i 1).val < 256 := (i 1).isLt
  have b2 : (i 2).val < 256 := (i 2).isLt
  have b3 : (i 3).val < 256 := (i 3).isLt
  have hN : cfg0.N = 16 := N_0
  have ht : (i 1).val / 16 < cfg0.N := by omega
  refine ⟨⟨(i 1).val / 16, ht⟩, flush0_2 _, ?_⟩
  obtain ⟨e0, e1, e2, e3⟩ := index_out ⟨(i 1).val / 16, ht⟩
  show i ∈ ((View.whole main_v0).slice (win0_2.rect ⟨(i 1).val / 16, ht⟩)).set
  rw [View.set_slice_whole, Rect.mem_set_unit]
  intro a
  match a with
  | ⟨0, _⟩ => show win0_2.index _ 0 * 3 ≤ (i 0).val ∧ (i 0).val < win0_2.index _ 0 * 3 + 3
              rw [e0]; omega
  | ⟨1, _⟩ => show win0_2.index _ 1 * 16 ≤ (i 1).val ∧ (i 1).val < win0_2.index _ 1 * 16 + 16
              rw [e1]; dsimp only; omega
  | ⟨2, _⟩ => show win0_2.index _ 2 * 256 ≤ (i 2).val ∧ (i 2).val < win0_2.index _ 2 * 256 + 256
              rw [e2]; omega
  | ⟨3, _⟩ => show win0_2.index _ 3 * 256 ≤ (i 3).val ∧ (i 3).val < win0_2.index _ 3 * 256 + 256
              rw [e3]; omega

end Cert.KernelIdeal.Grad

end
-- ==== Proof.Run.lean ====
/- The kernel's run over its grid: the scratch carries the last plane of each block to the next point, and the output array ends
   holding the specification's whole output. -/
module

public import proofs.«01_k».proof.Proof.Blocks
public import Idealize.ShloMosaic.Lib.Claim

@[expose] public section

set_option maxRecDepth 16384

noncomputable section

namespace Cert.KernelIdeal.Grad

open Cert.KernelIdeal Cert.KernelIdeal.Gen Cert.Cube Cert.Spec Cert.Trip Cert.Store
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the scratch holds before point `n`: anything before the first, the carried plane before the others. -/
def scratchAt (c : Dev nD) (n : ℕ) : sProp 𝕄 :=
  if n = 0 then iprop(∃ d, owns (c : Thread nD τ) mCarry fullShare d) else owns (c : Thread nD τ) mCarry fullShare (carry m c n)

/-- The invariant before point `n`: the scratch, and the generator at some state. -/
def inv (c : Dev nD) (n : ℕ) : sProp 𝕄 := iprop(scratchAt m c n ∗ (∃ r, prngReg c r))

/-- The run's data: the arrays as launched; the inputs' blocks left in place, the output's block at the specification's; the
    invariant above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock m c t
  Φ t := inv m c t.val
  q w := Pipeline.shareOf spec0 w
  owed _ := 0

/-- The data's arrays are the launch's. -/
theorem dats_A (c : Dev nD) (w : Fin cfg0.W) : (dats m 0 c).A w = V m c (Pipeline.arrRef spec0 w) := by dsimp only [dats]

/-- The body leaves the loaded block in place. -/
theorem after_in (c : Dev nD) (t : Fin cfg0.N) : (dats m 0 c).after 0 t = iblk m c 0 t := by dsimp only [dats]
/-- The body leaves the plane after the block in place. -/
theorem after_next (c : Dev nD) (t : Fin cfg0.N) : (dats m 0 c).after 1 t = iblk m c 1 t := by dsimp only [dats]
/-- The body leaves the specification's block in the output's buffer. -/
theorem after_out (c : Dev nD) (t : Fin cfg0.N) : (dats m 0 c).after 2 t = outBlock m c t := by dsimp only [dats]

/-- The body finds the loaded block. -/
theorem before_in (c : Dev nD) (t : Fin cfg0.N) (d) : (dats m 0 c).before 0 t d = iblk m c 0 t :=
  before0_0_of m (dats m 0 c) (dats_A m c 0) (after_in m c) t d
/-- The body finds the plane after the block. -/
theorem before_next (c : Dev nD) (t : Fin cfg0.N) (d) : (dats m 0 c).before 1 t d = iblk m c 1 t :=
  before0_1_of m (dats m 0 c) (dats_A m c 1) (after_next m c) t d

/-- A family indexed by position, read before a point. -/
theorem at_castSucc {N : ℕ} {α : Type} (S : ℕ → α) (t : Fin N) : (fun u : Fin (N + 1) => S u.val) t.castSucc = S t.val := rfl
/-- The same family, read after a point. -/
theorem at_succ {N : ℕ} {α : Type} (S : ℕ → α) (t : Fin N) : (fun u : Fin (N + 1) => S u.val) t.succ = S (t.val + 1) := rfl

/-- The invariant before a point. -/
theorem phi_before (c : Dev nD) (t : Fin cfg0.N) : (dats m 0 c).Φ t.castSucc = inv m c t.val := by
  dsimp only [dats]; exact at_castSucc (inv m c) t
/-- The invariant after a point. -/
theorem phi_after (c : Dev nD) (t : Fin cfg0.N) : (dats m 0 c).Φ t.succ = inv m c (t.val + 1) := by
  dsimp only [dats]; exact at_succ (inv m c) t

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (mIn t) fullShare ((dats m 0 c).before 0 t d))
    ∗ (∃ d, owns (c : Thread nD τ) (mNext t) fullShare ((dats m 0 c).before 1 t d))
    ∗ (∃ d, owns (c : Thread nD τ) (mOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (mIn t) fullShare ((dats m 0 c).after 0 t)
    ∗ owns (c : Thread nD τ) (mNext t) fullShare ((dats m 0 c).after 1 t)
    ∗ owns (c : Thread nD τ) (mOut t) fullShare ((dats m 0 c).after 2 t))

set_option maxHeartbeats 1200000 in
/-- The body at any point: its run at the point's kind, from the carried plane to the next carried plane. -/
theorem body_at (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_in, before_next]
  rw [phi_before, phi_after, show (dats m 0 c).owesAt () t.succ = (dats m 0 c).owesAt () t.castSucc from rfl,
    after_in, after_next, after_out]
  have hN : t.val < 16 := lt_of_lt_of_eq t.isLt (show cfg0.N = 16 from N_0)
  unfold inv scratchAt
  rw [if_neg (Nat.succ_ne_zero t.val), ← lastPlane_eq]
  by_cases h0 : t.val = 0
  · have h1 : t.val ≠ 15 := by omega
    rw [if_pos h0]
    iintro ⟨⟨⟨%s, HS0⟩, Hg⟩, Ho, ⟨%d0, H0⟩, ⟨%d1, H1⟩, ⟨%d2, H2⟩⟩
    unfold outBlock
    rw [block_first (t.val = 0) (t.val = 15) h0 (iblk m c 0 t) (iblk m c 1 t) (carry m c t.val) s]
    iapply (body_first c (grid0.coords t) _ _ _ _ _ _ _ _ ((isFirst_iff t).mpr h0) (fun h => h1 ((isLast_iff t).mp h))
      (t.val = 0) (t.val = 15) h0 h1 (iblk m c 0 t) (iblk m c 1 t) s Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iexact HS0
      iexact Hg
    isplitl [Ho]; · iexact Ho
    isplitl [H0]; · iexact H0
    isplitl [H1]; · iexact H1
    iexact H2
  · rw [if_neg h0]
    by_cases h1 : t.val = 15
    · iintro ⟨⟨HS0, Hg⟩, Ho, ⟨%d0, H0⟩, ⟨%d1, H1⟩, ⟨%d2, H2⟩⟩
      iapply (body_last c (grid0.coords t) _ _ _ _ _ _ _ _ (fun h => h0 ((isFirst_iff t).mp h)) ((isLast_iff t).mpr h1)
        (t.val = 0) (t.val = 15) h0 h1 (iblk m c 0 t) (iblk m c 1 t) (carry m c t.val) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]
        · iexact HS0
        iexact Hg
      isplitl [Ho]; · iexact Ho
      isplitl [H0]; · iexact H0
      isplitl [H1]; · iexact H1
      iexact H2
    · iintro ⟨⟨HS0, Hg⟩, Ho, ⟨%d0, H0⟩, ⟨%d1, H1⟩, ⟨%d2, H2⟩⟩
      iapply (body_mid c (grid0.coords t) _ _ _ _ _ _ _ _ (fun h => h0 ((isFirst_iff t).mp h)) (fun h => h1 ((isLast_iff t).mp h))
        (t.val = 0) (t.val = 15) h0 h1 (iblk m c 0 t) (iblk m c 1 t) (carry m c t.val) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]
        · iexact HS0
        iexact Hg
      isplitl [Ho]; · iexact Ho
      isplitl [H0]; · iexact H0
      isplitl [H1]; · iexact H1
      iexact H2

/-- The body table's row at a point is the body at the point. -/
theorem row_eq (t : Fin cfg0.N) : defs₀ (F := Ideal) .tc cfg0.body (cfg0.bodyArgs t (cfg0.slots t)) = bodyAt0 t := by
  unfold defs₀; rw [Defs.onTc_tc]

/-- The body's obligation, at every point. -/
theorem obligation (c : Dev nD) : BodyObligation (dats m 0 c) (defs₀ (F := Ideal)) Variants.none () Set.univ := fun t => by
  rw [bigSep_W0, bigSep_W0, row_eq]
  exact triple_restated (body_at m c t) rfl .rfl fun _ => .rfl

/-- At the launch the scratch holds anything, -/
theorem inv_start (c : Dev nD) : Pipeline.ΦA spec0 c ⊢ (dats m 0 c).Φ 0 := by
  have e : (dats m 0 c).Φ 0 = inv m c 0 := by dsimp only [dats]; rfl
  rw [e, rest_eq]
  unfold inv scratchAt
  rw [if_pos rfl]

/-- and after the last point what it holds is forgotten. -/
theorem inv_end (c : Dev nD) : (dats m 0 c).Φ (Fin.last cfg0.N) ⊢ Pipeline.ΦA spec0 c := by
  have e : (dats m 0 c).Φ (Fin.last cfg0.N) = inv m c cfg0.N := by dsimp only [dats]; rfl
  rw [e, rest_eq]
  unfold inv scratchAt
  rw [if_neg (by rw [show cfg0.N = 16 from N_0]; decide)]
  iintro ⟨HS0, Hg⟩
  isplitl [HS0]
  · iexists _; iexact HS0
  iexact Hg

set_option backward.isDefEq.respectTransparency.types false in
/-- The launch: every execution ends with every array at what the points wrote back, and every semaphore counter at zero. -/
theorem run_all : θ_run defs (onTc (τ := τ) (main (F := Ideal))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hin := inv_start m) (hout := inv_end m)

/-- The output array ends holding the specification's whole output. -/
theorem final_out (c : Dev nD) : (dats m 0 c).arrAt 2 cfg0.N = whole (grid m c) :=
  (dats m 0 c).arrAt_eq_of_cover 2 (whole (grid m c)) (fun t _ => by
    show (cfg0.win 2).cut (grid0.coords t) ((dats m 0 c).after 2 t) = _
    rw [after_out]
    exact outBlock_read m c t) cover

/-- The kernel's frame: the argument ends unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  Idealize.ShloMosaic.θ_run_and (frame_of m ρ (dats m) (dats_A m) ((θ_run defs _ _).mono (fun _ h => h.1) (run_all m ρ)))
    ((θ_run defs _ _).mono (fun _ h => h.2) (run_all m ρ))

/-- The kernel's value: the result ends at the specification's whole output, the argument unchanged. -/
theorem run : θ_run defs (onTc (τ := τ) (main (F := Ideal))) ⟨m, fun _ => 0, ρ⟩ (fun r => ∀ c : Dev nD,
      r.2.mem ((c.tc : Thread nD τ).loc main_v0) = whole (grid m c)
      ∧ r.2.mem ((c.tc : Thread nD τ).loc main_arg0) = m ((c.tc : Thread nD τ).loc main_arg0)) :=
  (θ_run defs _ _).mono (fun _ h c => ⟨((h.1 c).1 2).trans (final_out m c),
      ((h.1 c).1 1).trans (((dats m 0 c).arrAt_in 1 rfl _).trans (dats_A m c 1))⟩) (run_all m ρ)

end Cert.KernelIdeal.Grad

end
-- ==== Proof.Target.lean ====
/- What the reference computes, element by element: along each axis, the next element less the previous one over twice the step,
   the element past either end extrapolated as (3 a − b) / 2. -/
module

public import proofs.«01_k».proof.Proof.Cube
public import proofs.«01_k».proof.ReferenceIdeal

@[expose] public section

noncomputable section

namespace Cert.Target

open Idealize.ShloMosaic Cert.Cube Cert.ReferenceIdeal

/-- Twice the step, as the reference computes it: 2 · ((2 − (−2)) / 255). -/
def step : EReal := Ideal.ofBits .f32 0x40000000#32
  * Ideal.div (Ideal.ofBits .f32 0x40000000#32 - Ideal.ofBits .f32 0xC0000000#32) (Ideal.ofBits .f32 0x437F0000#32)

/-- The element past an end, from the end's element and the one two before it. -/
def edge (a b : EReal) : EReal := Ideal.div (Ideal.ofBits .f32 0x40400000#32 * a - b) (Ideal.ofBits .f32 0x40000000#32)

/-- The element after `i` on a line of 256, -/
def nextOf (c : ℕ → EReal) (i : ℕ) : EReal := if i < 255 then c (i + 1) else edge (c 255) (c 253)
/-- and the one before it. -/
def prevOf (c : ℕ → EReal) (i : ℕ) : EReal := if i < 1 then edge (c 0) (c 2) else c (i - 1)

/-- The derivative at `i` along a line of 256. -/
def refLine (c : ℕ → EReal) (i : ℕ) : EReal := Ideal.div (nextOf c i - prevOf c i) step

/-- One element of the reference's result, from the whole grid. -/
def refAt (g : S256x256x256.Idx → EReal) (a i j k : ℕ) : EReal :=
  match a with
  | 0 => refLine (fun q => at3 g q j k) i
  | 1 => refLine (fun q => at3 g i q k) j
  | _ => refLine (fun q => at3 g i j q) k

end Cert.Target

end
-- ==== Proof.RefValue.lean ====
/- The reference's result read at an index: each axis' next and previous arrays, their difference over the step, and the three
   axes stacked. -/
module

public import proofs.«01_k».proof.Proof.Target
public import proofs.«01_k».proof.Proof.Gen.ReferenceIdeal.Read

@[expose] public section

noncomputable section

namespace Cert.Target

open Idealize.ShloMosaic Cert.Cube Cert.ReferenceIdeal Cert.ReferenceIdeal.Gen Cert.ReferenceIdeal.Read

variable (g : S256x256x256.Idx → EReal)

/-- The element past the last plane. -/
theorem edge_plane_next (y : S1x256x256.Idx) :
    val_main_v13 (F := Ideal) g y = edge (at3 g 255 (y 1).val (y 2).val) (at3 g 253 (y 1).val (y 2).val) := by
  rw [val_main_v13_apply]
  generalize hp : idx_main_v13 y = p
  have p0 : (p 0).val = (y 1).val := by rw [← hp]
  have p1 : (p 1).val = (y 2).val := by rw [← hp]
  have ha : g (idx_main_v4 (idx_main_v5 p)) = at3 g 255 (p 0).val (p 1).val := eq_at3_of g _ rfl
    (by have h0 : (p 0).val < 256 := (p 0).isLt; have h1 : (p 1).val < 256 := (p 1).isLt; show ((p 0).val * 256 + (p 1).val) / 256 % 256 = (p 0).val; omega)
    (by have h0 : (p 0).val < 256 := (p 0).isLt; have h1 : (p 1).val < 256 := (p 1).isLt; show ((p 0).val * 256 + (p 1).val) % 256 = (p 1).val; omega)
  have hb : g (idx_main_v8 (idx_main_v9 p)) = at3 g 253 (p 0).val (p 1).val := eq_at3_of g _ rfl
    (by have h0 : (p 0).val < 256 := (p 0).isLt; have h1 : (p 1).val < 256 := (p 1).isLt; show ((p 0).val * 256 + (p 1).val) / 256 % 256 = (p 0).val; omega)
    (by have h0 : (p 0).val < 256 := (p 0).isLt; have h1 : (p 1).val < 256 := (p 1).isLt; show ((p 0).val * 256 + (p 1).val) % 256 = (p 1).val; omega)
  rw [val_main_v12_apply, val_main_v10_apply, val_main_v7_apply, val_main_v6_apply, val_main_cst_3_apply,
    val_main_v5_apply, val_main_v4_apply, val_main_v9_apply, val_main_v8_apply, val_main_v11_apply,
    val_main_cst_4_apply, ha, hb, p0, p1]
  rfl

/-- The element before the first plane. -/
theorem edge_plane_prev (y : S1x256x256.Idx) :
    val_main_v24 (F := Ideal) g y = edge (at3 g 0 (y 1).val (y 2).val) (at3 g 2 (y 1).val (y 2).val) := by
  rw [val_main_v24_apply]
  generalize hp : idx_main_v24 y = p
  have p0 : (p 0).val = (y 1).val := by rw [← hp]
  have p1 : (p 1).val = (y 2).val := by rw [← hp]
  have ha : g (idx_main_v15 (idx_main_v16 p)) = at3 g 0 (p 0).val (p 1).val := eq_at3_of g _ rfl
    (by have h0 : (p 0).val < 256 := (p 0).isLt; have h1 : (p 1).val < 256 := (p 1).isLt; show ((p 0).val * 256 + (p 1).val) / 256 % 256 = (p 0).val; omega)
    (by have h0 : (p 0).val < 256 := (p 0).isLt; have h1 : (p 1).val < 256 := (p 1).isLt; show ((p 0).val * 256 + (p 1).val) % 256 = (p 1).val; omega)
  have hb : g (idx_main_v19 (idx_main_v20 p)) = at3 g 2 (p 0).val (p 1).val := eq_at3_of g _ rfl
    (by have h0 : (p 0).val < 256 := (p 0).isLt; have h1 : (p 1).val < 256 := (p 1).isLt; show ((p 0).val * 256 + (p 1).val) / 256 % 256 = (p 0).val; omega)
    (by have h0 : (p 0).val < 256 := (p 0).isLt; have h1 : (p 1).val < 256 := (p 1).isLt; show ((p 0).val * 256 + (p 1).val) % 256 = (p 1).val; omega)
  rw [val_main_v23_apply, val_main_v21_apply, val_main_v18_apply, val_main_v17_apply, val_main_cst_5_apply,
    val_main_v16_apply, val_main_v15_apply, val_main_v20_apply, val_main_v19_apply, val_main_v22_apply,
    val_main_cst_6_apply, ha, hb, p0, p1]
  rfl

/-- The array of next elements along the planes. -/
theorem next_plane (y : S256x256x256.Idx) : val_main_v14 (F := Ideal) g y = nextOf (fun q => at3 g q (y 1).val (y 2).val) (y 0).val := by
  have hy : (y 0).val < 256 := (y 0).isLt
  unfold val_main_v14 nextOf
  refine (cat0_at3 (val_main_v3 (F := Ideal) g) (val_main_v13 (F := Ideal) g) _ y).trans ?_
  by_cases h : (y 0).val < 255
  · rw [if_pos h, if_pos h]
    refine (at3_of_lt (n0 := 255) (n1 := 256) (n2 := 256) (val_main_v3 (F := Ideal) g) h (y 1).isLt (y 2).isLt).trans ?_
    rw [val_main_v3_apply]
    exact eq_at3_of g _ (Nat.add_comm 1 _) rfl rfl
  · rw [if_neg h, if_neg h]
    refine (at3_of_lt (n0 := 1) (n1 := 256) (n2 := 256) (val_main_v13 (F := Ideal) g) (by omega : (y 0).val - 255 < 1) (y 1).isLt (y 2).isLt).trans ?_
    rw [edge_plane_next]

/-- The array of previous elements along the planes. -/
theorem prev_plane (y : S256x256x256.Idx) : val_main_v26 (F := Ideal) g y = prevOf (fun q => at3 g q (y 1).val (y 2).val) (y 0).val := by
  have hy : (y 0).val < 256 := (y 0).isLt
  unfold val_main_v26 prevOf
  refine (cat0_at3 (val_main_v24 (F := Ideal) g) (val_main_v25 (F := Ideal) g) _ y).trans ?_
  by_cases h : (y 0).val < 1
  · rw [if_pos h, if_pos h]
    refine (at3_of_lt (n0 := 1) (n1 := 256) (n2 := 256) (val_main_v24 (F := Ideal) g) h (y 1).isLt (y 2).isLt).trans ?_
    rw [edge_plane_prev]
  · rw [if_neg h, if_neg h]
    refine (at3_of_lt (n0 := 255) (n1 := 256) (n2 := 256) (val_main_v25 (F := Ideal) g) (by omega : (y 0).val - 1 < 255) (y 1).isLt (y 2).isLt).trans ?_
    rw [val_main_v25_apply]
    exact eq_at3_of g _ rfl rfl rfl

/-- The derivative along the planes. -/
theorem deriv_plane (y : S256x256x256.Idx) : val_main_v29 (F := Ideal) g y = refLine (fun q => at3 g q (y 1).val (y 2).val) (y 0).val := by
  rw [val_main_v29_apply, val_main_v27_apply, next_plane, prev_plane, val_main_v28_apply]
  rfl

/-- The element past the last row. -/
theorem edge_row_next (y : S256x1x256.Idx) :
    val_main_v40 (F := Ideal) g y = edge (at3 g (y 0).val 255 (y 2).val) (at3 g (y 0).val 253 (y 2).val) := by
  rw [val_main_v40_apply]
  generalize hp : idx_main_v40 y = p
  have p0 : (p 0).val = (y 0).val := by rw [← hp]
  have p1 : (p 1).val = (y 2).val := by rw [← hp]
  have ha : g (idx_main_v31 (idx_main_v32 p)) = at3 g (p 0).val 255 (p 1).val := eq_at3_of g _
    (by have h0 : (p 0).val < 256 := (p 0).isLt; have h1 : (p 1).val < 256 := (p 1).isLt; show ((p 0).val * 256 + (p 1).val) / 256 = (p 0).val; omega)
    rfl
    (by have h0 : (p 0).val < 256 := (p 0).isLt; have h1 : (p 1).val < 256 := (p 1).isLt; show ((p 0).val * 256 + (p 1).val) % 256 = (p 1).val; omega)
  have hb : g (idx_main_v35 (idx_main_v36 p)) = at3 g (p 0).val 253 (p 1).val := eq_at3_of g _
    (by have h0 : (p 0).val < 256 := (p 0).isLt; have h1 : (p 1).val < 256 := (p 1).isLt; show ((p 0).val * 256 + (p 1).val) / 256 = (p 0).val; omega)
    rfl
    (by have h0 : (p 0).val < 256 := (p 0).isLt; have h1 : (p 1).val < 256 := (p 1).isLt; show ((p 0).val * 256 + (p 1).val) % 256 = (p 1).val; omega)
  rw [val_main_v39_apply, val_main_v37_apply, val_main_v34_apply, val_main_v33_apply, val_main_cst_7_apply,
    val_main_v32_apply, val_main_v31_apply, val_main_v36_apply, val_main_v35_apply, val_main_v38_apply,
    val_main_cst_8_apply, ha, hb, p0, p1]
  rfl

/-- The element before the first row. -/
theorem edge_row_prev (y : S256x1x256.Idx) :
    val_main_v51 (F := Ideal) g y = edge (at3 g (y 0).val 0 (y 2).val) (at3 g (y 0).val 2 (y 2).val) := by
  rw [val_main_v51_apply]
  generalize hp : idx_main_v51 y = p
  have p0 : (p 0).val = (y 0).val := by rw [← hp]
  have p1 : (p 1).val = (y 2).val := by rw [← hp]
  have ha : g (idx_main_v42 (idx_main_v43 p)) = at3 g (p 0).val 0 (p 1).val := eq_at3_of g _
    (by have h0 : (p 0).val < 256 := (p 0).isLt; have h1 : (p 1).val < 256 := (p 1).isLt; show ((p 0).val * 256 + (p 1).val) / 256 = (p 0).val; omega)
    rfl
    (by have h0 : (p 0).val < 256 := (p 0).isLt; have h1 : (p 1).val < 256 := (p 1).isLt; show ((p 0).val * 256 + (p 1).val) % 256 = (p 1).val; omega)
  have hb : g (idx_main_v46 (idx_main_v47 p)) = at3 g (p 0).val 2 (p 1).val := eq_at3_of g _
    (by have h0 : (p 0).val < 256 := (p 0).isLt; have h1 : (p 1).val < 256 := (p 1).isLt; show ((p 0).val * 256 + (p 1).val) / 256 = (p 0).val; omega)
    rfl
    (by have h0 : (p 0).val < 256 := (p 0).isLt; have h1 : (p 1).val < 256 := (p 1).isLt; show ((p 0).val * 256 + (p 1).val) % 256 = (p 1).val; omega)
  rw [val_main_v50_apply, val_main_v48_apply, val_main_v45_apply, val_main_v44_apply, val_main_cst_9_apply,
    val_main_v43_apply, val_main_v42_apply, val_main_v47_apply, val_main_v46_apply, val_main_v49_apply,
    val_main_cst_10_apply, ha, hb, p0, p1]
  rfl

/-- The array of next elements along the rows. -/
theorem next_row (y : S256x256x256.Idx) : val_main_v41 (F := Ideal) g y = nextOf (fun q => at3 g (y 0).val q (y 2).val) (y 1).val := by
  have hy : (y 1).val < 256 := (y 1).isLt
  unfold val_main_v41 nextOf
  refine (cat1_at3 (val_main_v30 (F := Ideal) g) (val_main_v40 (F := Ideal) g) _ y).trans ?_
  by_cases h : (y 1).val < 255
  · rw [if_pos h, if_pos h]
    refine (at3_of_lt (n0 := 256) (n1 := 255) (n2 := 256) (val_main_v30 (F := Ideal) g) (y 0).isLt h (y 2).isLt).trans ?_
    rw [val_main_v30_apply]
    exact eq_at3_of g _ rfl (Nat.add_comm 1 _) rfl
  · rw [if_neg h, if_neg h]
    refine (at3_of_lt (n0 := 256) (n1 := 1) (n2 := 256) (val_main_v40 (F := Ideal) g) (y 0).isLt (by omega : (y 1).val - 255 < 1) (y 2).isLt).trans ?_
    rw [edge_row_next]

/-- The array of previous elements along the rows. -/
theorem prev_row (y : S256x256x256.Idx) : val_main_v53 (F := Ideal) g y = prevOf (fun q => at3 g (y 0).val q (y 2).val) (y 1).val := by
  have hy : (y 1).val < 256 := (y 1).isLt
  unfold val_main_v53 prevOf
  refine (cat1_at3 (val_main_v51 (F := Ideal) g) (val_main_v52 (F := Ideal) g) _ y).trans ?_
  by_cases h : (y 1).val < 1
  · rw [if_pos h, if_pos h]
    refine (at3_of_lt (n0 := 256) (n1 := 1) (n2 := 256) (val_main_v51 (F := Ideal) g) (y 0).isLt h (y 2).isLt).trans ?_
    rw [edge_row_prev]
  · rw [if_neg h, if_neg h]
    refine (at3_of_lt (n0 := 256) (n1 := 255) (n2 := 256) (val_main_v52 (F := Ideal) g) (y 0).isLt (by omega : (y 1).val - 1 < 255) (y 2).isLt).trans ?_
    rw [val_main_v52_apply]
    exact eq_at3_of g _ rfl rfl rfl

/-- The derivative along the rows. -/
theorem deriv_row (y : S256x256x256.Idx) : val_main_v56 (F := Ideal) g y = refLine (fun q => at3 g (y 0).val q (y 2).val) (y 1).val := by
  rw [val_main_v56_apply, val_main_v54_apply, next_row, prev_row, val_main_v55_apply]
  rfl

/-- The element past the last col. -/
theorem edge_col_next (y : S256x256x1.Idx) :
    val_main_v67 (F := Ideal) g y = edge (at3 g (y 0).val (y 1).val 255) (at3 g (y 0).val (y 1).val 253) := by
  rw [val_main_v67_apply]
  generalize hp : idx_main_v67 y = p
  have p0 : (p 0).val = (y 0).val := by rw [← hp]
  have p1 : (p 1).val = (y 1).val := by rw [← hp]
  have ha : g (idx_main_v58 (idx_main_v59 p)) = at3 g (p 0).val (p 1).val 255 := eq_at3_of g _
    (by have h0 : (p 0).val < 256 := (p 0).isLt; have h1 : (p 1).val < 256 := (p 1).isLt; show ((p 0).val * 256 + (p 1).val) / 256 = (p 0).val; omega)
    (by have h0 : (p 0).val < 256 := (p 0).isLt; have h1 : (p 1).val < 256 := (p 1).isLt; show ((p 0).val * 256 + (p 1).val) / 1 % 256 = (p 1).val; omega)
    rfl
  have hb : g (idx_main_v62 (idx_main_v63 p)) = at3 g (p 0).val (p 1).val 253 := eq_at3_of g _
    (by have h0 : (p 0).val < 256 := (p 0).isLt; have h1 : (p 1).val < 256 := (p 1).isLt; show ((p 0).val * 256 + (p 1).val) / 256 = (p 0).val; omega)
    (by have h0 : (p 0).val < 256 := (p 0).isLt; have h1 : (p 1).val < 256 := (p 1).isLt; show ((p 0).val * 256 + (p 1).val) / 1 % 256 = (p 1).val; omega)
    rfl
  rw [val_main_v66_apply, val_main_v64_apply, val_main_v61_apply, val_main_v60_apply, val_main_cst_11_apply,
    val_main_v59_apply, val_main_v58_apply, val_main_v63_apply, val_main_v62_apply, val_main_v65_apply,
    val_main_cst_12_apply, ha, hb, p0, p1]
  rfl

/-- The element before the first col. -/
theorem edge_col_prev (y : S256x256x1.Idx) :
    val_main_v78 (F := Ideal) g y = edge (at3 g (y 0).val (y 1).val 0) (at3 g (y 0).val (y 1).val 2) := by
  rw [val_main_v78_apply]
  generalize hp : idx_main_v78 y = p
  have p0 : (p 0).val = (y 0).val := by rw [← hp]
  have p1 : (p 1).val = (y 1).val := by rw [← hp]
  have ha : g (idx_main_v69 (idx_main_v70 p)) = at3 g (p 0).val (p 1).val 0 := eq_at3_of g _
    (by have h0 : (p 0).val < 256 := (p 0).isLt; have h1 : (p 1).val < 256 := (p 1).isLt; show ((p 0).val * 256 + (p 1).val) / 256 = (p 0).val; omega)
    (by have h0 : (p 0).val < 256 := (p 0).isLt; have h1 : (p 1).val < 256 := (p 1).isLt; show ((p 0).val * 256 + (p 1).val) / 1 % 256 = (p 1).val; omega)
    rfl
  have hb : g (idx_main_v73 (idx_main_v74 p)) = at3 g (p 0).val (p 1).val 2 := eq_at3_of g _
    (by have h0 : (p 0).val < 256 := (p 0).isLt; have h1 : (p 1).val < 256 := (p 1).isLt; show ((p 0).val * 256 + (p 1).val) / 256 = (p 0).val; omega)
    (by have h0 : (p 0).val < 256 := (p 0).isLt; have h1 : (p 1).val < 256 := (p 1).isLt; show ((p 0).val * 256 + (p 1).val) / 1 % 256 = (p 1).val; omega)
    rfl
  rw [val_main_v77_apply, val_main_v75_apply, val_main_v72_apply, val_main_v71_apply, val_main_cst_13_apply,
    val_main_v70_apply, val_main_v69_apply, val_main_v74_apply, val_main_v73_apply, val_main_v76_apply,
    val_main_cst_14_apply, ha, hb, p0, p1]
  rfl

/-- The array of next elements along the cols. -/
theorem next_col (y : S256x256x256.Idx) : val_main_v68 (F := Ideal) g y = nextOf (fun q => at3 g (y 0).val (y 1).val q) (y 2).val := by
  have hy : (y 2).val < 256 := (y 2).isLt
  unfold val_main_v68 nextOf
  refine (cat2_at3 (val_main_v57 (F := Ideal) g) (val_main_v67 (F := Ideal) g) _ y).trans ?_
  by_cases h : (y 2).val < 255
  · rw [if_pos h, if_pos h]
    refine (at3_of_lt (n0 := 256) (n1 := 256) (n2 := 255) (val_main_v57 (F := Ideal) g) (y 0).isLt (y 1).isLt h).trans ?_
    rw [val_main_v57_apply]
    exact eq_at3_of g _ rfl rfl (Nat.add_comm 1 _)
  · rw [if_neg h, if_neg h]
    refine (at3_of_lt (n0 := 256) (n1 := 256) (n2 := 1) (val_main_v67 (F := Ideal) g) (y 0).isLt (y 1).isLt (by omega : (y 2).val - 255 < 1)).trans ?_
    rw [edge_col_next]

/-- The array of previous elements along the cols. -/
theorem prev_col (y : S256x256x256.Idx) : val_main_v80 (F := Ideal) g y = prevOf (fun q => at3 g (y 0).val (y 1).val q) (y 2).val := by
  have hy : (y 2).val < 256 := (y 2).isLt
  unfold val_main_v80 prevOf
  refine (cat2_at3 (val_main_v78 (F := Ideal) g) (val_main_v79 (F := Ideal) g) _ y).trans ?_
  by_cases h : (y 2).val < 1
  · rw [if_pos h, if_pos h]
    refine (at3_of_lt (n0 := 256) (n1 := 256) (n2 := 1) (val_main_v78 (F := Ideal) g) (y 0).isLt (y 1).isLt h).trans ?_
    rw [edge_col_prev]
  · rw [if_neg h, if_neg h]
    refine (at3_of_lt (n0 := 256) (n1 := 256) (n2 := 255) (val_main_v79 (F := Ideal) g) (y 0).isLt (y 1).isLt (by omega : (y 2).val - 1 < 255)).trans ?_
    rw [val_main_v79_apply]
    exact eq_at3_of g _ rfl rfl rfl

/-- The derivative along the cols. -/
theorem deriv_col (y : S256x256x256.Idx) : val_main_v83 (F := Ideal) g y = refLine (fun q => at3 g (y 0).val (y 1).val q) (y 2).val := by
  rw [val_main_v83_apply, val_main_v81_apply, next_col, prev_col, val_main_v82_apply]
  rfl

/-- Layer 0 of the stack is the derivative along the planes. -/
theorem stack_plane (y : S3x256x256x256.Idx) (h : (y 0).val = 0) :
    val_main_v87 (F := Ideal) g y = refAt g 0 (y 1).val (y 2).val (y 3).val := by
  unfold val_main_v87
  refine (concatenate_apply_piece 0 _ _ y 0 (by show 0 < 3; omega) S1x256x256x256 (val_main_v84 (F := Ideal) g) rfl rfl 0 rfl
    (ValueIdx.ix4 ⟨0, Nat.one_pos⟩ (y 1) (y 2) (y 3)) (fun b hb => ?_) ?_).trans ?_
  · match b, hb with
    | ⟨0, _⟩, hb => exact absurd rfl hb
    | ⟨1, _⟩, _ => rfl
    | ⟨2, _⟩, _ => rfl
    | ⟨3, _⟩, _ => rfl
  · exact h.symm
  · rw [val_main_v84_apply, deriv_plane]
    rfl

/-- Layer 1 of the stack is the derivative along the rows. -/
theorem stack_row (y : S3x256x256x256.Idx) (h : (y 0).val = 1) :
    val_main_v87 (F := Ideal) g y = refAt g 1 (y 1).val (y 2).val (y 3).val := by
  unfold val_main_v87
  refine (concatenate_apply_piece 0 _ _ y 1 (by show 1 < 3; omega) S1x256x256x256 (val_main_v85 (F := Ideal) g) rfl rfl 1 rfl
    (ValueIdx.ix4 ⟨0, Nat.one_pos⟩ (y 1) (y 2) (y 3)) (fun b hb => ?_) ?_).trans ?_
  · match b, hb with
    | ⟨0, _⟩, hb => exact absurd rfl hb
    | ⟨1, _⟩, _ => rfl
    | ⟨2, _⟩, _ => rfl
    | ⟨3, _⟩, _ => rfl
  · exact h.symm
  · rw [val_main_v85_apply, deriv_row]
    rfl

/-- Layer 2 of the stack is the derivative along the cols. -/
theorem stack_col (y : S3x256x256x256.Idx) (h : (y 0).val = 2) :
    val_main_v87 (F := Ideal) g y = refAt g 2 (y 1).val (y 2).val (y 3).val := by
  unfold val_main_v87
  refine (concatenate_apply_piece 0 _ _ y 2 (by show 2 < 3; omega) S1x256x256x256 (val_main_v86 (F := Ideal) g) rfl rfl 2 rfl
    (ValueIdx.ix4 ⟨0, Nat.one_pos⟩ (y 1) (y 2) (y 3)) (fun b hb => ?_) ?_).trans ?_
  · match b, hb with
    | ⟨0, _⟩, hb => exact absurd rfl hb
    | ⟨1, _⟩, _ => rfl
    | ⟨2, _⟩, _ => rfl
    | ⟨3, _⟩, _ => rfl
  · exact h.symm
  · rw [val_main_v86_apply, deriv_col]
    rfl

/-- The reference's result, read at an index. -/
theorem value_at (y : S3x256x256x256.Idx) :
    val_main_v87 (F := Ideal) g y = refAt g (y 0).val (y 1).val (y 2).val (y 3).val := by
  have hy : (y 0).val < 3 := (y 0).isLt
  rcases (by omega : (y 0).val = 0 ∨ (y 0).val = 1 ∨ (y 0).val = 2) with h | h | h
  · rw [stack_plane g y h, h]
  · rw [stack_row g y h, h]
  · rw [stack_col g y h, h]

end Cert.Target

end
-- ==== Proof.Algebra.lean ====
/- The kernel's formulas and the reference's agree over the extended reals. Scaling by a positive real distributes over a
   difference of any two extended reals, so the two may scale before or after subtracting; only at the first plane, where the
   kernel writes −u + w for the reference's −(u − w), must an element be finite. -/
module

public import proofs.«01_k».proof.Proof.Spec
public import proofs.«01_k».proof.Proof.Target

@[expose] public section

noncomputable section

namespace Cert.Algebra

open Idealize.ShloMosaic Cert.Cube Cert.Spec Cert.Target

/-- The kernel's scale is 255/8. -/
theorem sinv_eq : sinv = ((255 / 8 : ℝ) : EReal) := by
  unfold sinv; simp [Ideal.ofBits, Ideal.ieee, -EReal.coe_mul]; norm_num
/-- The kernel's outer weight is 3/2. -/
theorem c15_eq : c15 = ((3 / 2 : ℝ) : EReal) := by
  unfold c15; simp [Ideal.ofBits, Ideal.ieee, -EReal.coe_mul]; norm_num
/-- The kernel's inner weight is 1/2. -/
theorem c05_eq : c05 = ((1 / 2 : ℝ) : EReal) := by
  unfold c05; simp [Ideal.ofBits, Ideal.ieee, -EReal.coe_mul]; norm_num

/-- The word 40000000 is 2. -/
theorem two_eq : Ideal.ofBits .f32 0x40000000#32 = ((2 : ℝ) : EReal) := by
  simp [Ideal.ofBits, Ideal.ieee, -EReal.coe_mul]; norm_num
/-- The word C0000000 is −2. -/
theorem mtwo_eq : Ideal.ofBits .f32 0xC0000000#32 = ((-2 : ℝ) : EReal) := by
  simp [Ideal.ofBits, Ideal.ieee, -EReal.coe_mul]; norm_num
/-- The word 40400000 is 3. -/
theorem three_eq : Ideal.ofBits .f32 0x40400000#32 = ((3 : ℝ) : EReal) := by
  simp [Ideal.ofBits, Ideal.ieee, -EReal.coe_mul]; norm_num
/-- The word 437F0000 is 255. -/
theorem n255_eq : Ideal.ofBits .f32 0x437F0000#32 = ((255 : ℝ) : EReal) := by
  simp [Ideal.ofBits, Ideal.ieee, -EReal.coe_mul]; norm_num

/-- Twice the step is 8/255. -/
theorem step_eq : step = ((8 / 255 : ℝ) : EReal) := by
  unfold step
  rw [two_eq, mtwo_eq, n255_eq, Ideal.div_coe (by norm_num), ← EReal.coe_sub, ← EReal.coe_mul, ← EReal.coe_mul]
  norm_num

/-- Scaling by a nonnegative real distributes over a difference of extended reals. -/
theorem scale_sub (r : ℝ) (hr : 0 ≤ r) (a b : EReal) : (a - b) * (r : EReal) = a * r - b * r := by
  rw [sub_eq_add_neg, sub_eq_add_neg, EReal.right_distrib_of_nonneg_of_ne_top (EReal.coe_nonneg.mpr hr) (EReal.coe_ne_top r),
    EReal.neg_mul]

/-- Dividing by twice the step is multiplying by the kernel's reciprocal. -/
theorem div_step (a : EReal) : Ideal.div a step = a * sinv := by
  rw [step_eq, sinv_eq, Ideal.div_coe (by norm_num)]
  norm_num

/-- The reference's extrapolated element is the kernel's combination. -/
theorem edge_eq (a b : EReal) : edge a b = c15 * a - c05 * b := by
  unfold edge
  rw [two_eq, three_eq, c15_eq, c05_eq, Ideal.div_coe (by norm_num), scale_sub _ (by norm_num), mul_right_comm, ← EReal.coe_mul,
    mul_comm b]
  norm_num

/-- A scaled combination is the combination of the scaled elements. -/
theorem scale_edge (a b : EReal) : c15 * (a * sinv) - c05 * (b * sinv) = edge a b * sinv := by
  rw [edge_eq, ← mul_assoc, ← mul_assoc, sinv_eq, scale_sub _ (by norm_num)]

/-- The reference's derivative is the scaled difference. -/
theorem refLine_eq (c : ℕ → EReal) (i : ℕ) : refLine c i = (nextOf c i - prevOf c i) * sinv := div_step _

/-- Along a row or a column: the kernel's difference of scaled elements is the reference's derivative. -/
theorem lineDiff_eq (c : ℕ → EReal) (i : ℕ) : lineDiff (fun q => c q * sinv) i = refLine c i := by
  rw [refLine_eq]
  have hn : (if i < 255 then c (i + 1) * sinv else c15 * (c 255 * sinv) - c05 * (c 253 * sinv)) = nextOf c i * sinv := by
    unfold nextOf
    split
    · rfl
    · exact scale_edge _ _
  have hp : (if i < 1 then c15 * (c 0 * sinv) - c05 * (c 2 * sinv) else c (i - 1) * sinv) = prevOf c i * sinv := by
    unfold prevOf
    split
    · exact scale_edge _ _
    · rfl
  unfold lineDiff
  rw [hn, hp, sinv_eq, scale_sub _ (by norm_num)]

/-- The first plane: with its own element finite, the kernel's sum is the reference's difference. -/
theorem first_eq (u : ℝ) (v w : EReal) : (v - c15 * (u : EReal)) + c05 * w = v - edge (u : EReal) w := by
  rw [edge_eq, c15_eq, ← EReal.coe_mul, sub_eq_add_neg v (_ - _), EReal.neg_sub (Or.inl (EReal.coe_ne_bot _))
    (Or.inl (EReal.coe_ne_top _)), sub_eq_add_neg, add_assoc]

/-- The last plane: the kernel subtracts in the other order. -/
theorem last_eq (u v w : EReal) : (c15 * u - v) - c05 * w = edge u w - v := by
  rw [edge_eq, sub_eq_add_neg, sub_eq_add_neg, sub_eq_add_neg, sub_eq_add_neg, add_right_comm]

/-- Across the planes: the kernel's blocked difference at plane `i` is the reference's derivative, when the first plane's
    element on the line is finite. -/
theorem planeDiff_eq (c : ℕ → EReal) (u : ℝ) (hu : c 0 = (u : EReal)) (i : ℕ) (hi : i < 256) :
    planeDiff (i / 16 = 0) (i / 16 = 15) (fun q => c (i / 16 * 16 + q)) (c (min (i / 16 * 16 + 16) 255))
      (c (i / 16 * 16 - 1) * sinv) (i % 16) = refLine c i := by
  rw [refLine_eq]
  unfold planeDiff nextOf prevOf
  by_cases h0 : i / 16 = 0 ∧ i % 16 = 0
  · have e : i = 0 := by omega
    subst e
    rw [if_pos h0, if_pos (by omega), if_pos (by omega), hu, ← first_eq, ← hu]
  rw [if_neg h0]
  have h1 : ¬ i < 1 := by omega
  rw [if_neg h1]
  by_cases h15 : i / 16 = 15 ∧ i % 16 = 15
  · have e : i = 255 := by omega
    subst e
    rw [if_pos h15, if_neg (by omega), ← last_eq]
  rw [if_neg h15]
  have h2 : i < 255 := by omega
  rw [if_pos h2]
  by_cases hr0 : i % 16 = 0
  · rw [if_pos hr0, sinv_eq, scale_sub _ (by norm_num)]
    have e1 : i / 16 * 16 + 1 = i + 1 := by omega
    have e2 : i / 16 * 16 - 1 = i - 1 := by omega
    simp only [e1, e2]
  rw [if_neg hr0]
  by_cases hr15 : i % 16 = 15
  · rw [if_pos hr15]
    have e1 : min (i / 16 * 16 + 16) 255 = i + 1 := by omega
    have e2 : i / 16 * 16 + 14 = i - 1 := by omega
    simp only [e1, e2]
  rw [if_neg hr15]
  have e1 : i / 16 * 16 + (i % 16 + 1) = i + 1 := by omega
  have e2 : i / 16 * 16 + (i % 16 - 1) = i - 1 := by omega
  simp only [e1, e2]

/-- Element by element: the kernel's output is the reference's result, when every element of the first plane is finite. -/
theorem wholeAt_eq (g : Cert.KernelIdeal.S256x256x256.Idx → EReal)
    (hg : ∀ j k, j < 256 → k < 256 → ∃ u : ℝ, at3 g 0 j k = (u : EReal)) (a i j k : ℕ) (hi : i < 256) (hj : j < 256)
    (hk : k < 256) : wholeAt g a i j k = refAt g a i j k := by
  match a with
  | 0 =>
    obtain ⟨u, hu⟩ := hg j k hj hk
    exact planeDiff_eq (fun q => at3 g q j k) u hu i hi
  | 1 => exact lineDiff_eq (fun q => at3 g i q k) j
  | _ + 2 => exact lineDiff_eq (fun q => at3 g i j q) k

end Cert.Algebra

end
-- ==== Proof.Finite.lean ====
/- The precondition read as mathematics: where it holds, every element of the first plane is a real number. -/
module

public import proofs.«01_k».proof.Proof.Cube
public import proofs.«01_k».proof.Pre_first_plane_finite
public import Idealize.ShloMosaic.PureOps.Ideal.Laws

@[expose] public section

noncomputable section

namespace Cert.Finite

open Idealize.ShloMosaic Cert.Cube Cert.Pre_first_plane_finite

/-- The first plane lies inside the grid. -/
theorem plane_slices : S256x256x256.Slices ![0, 0, 0] S1x256x256 := by decide
/-- A single value spreads over a plane. -/
theorem plane_bcast : S_.BroadcastsInDim S1x256x256 (![] : Fin 0 → Fin S1x256x256.rank) := by decide

/-- The precondition's side conditions. -/
instance facts : Cert.Pre_first_plane_finite.Facts where
  slices_S256x256x256_S1x256x256_0_0_0 := plane_slices
  bcast_S_S1x256x256 := plane_bcast

/-- The word 7F800000 is +∞. -/
theorem top_eq : Ideal.ofBits .f32 0x7F800000#32 = (⊤ : EReal) := by simp [Ideal.ofBits, Ideal.ieee]

/-- An element whose absolute value is below +∞ is a real number. -/
theorem real_of_abs_lt (x : EReal) (h : Ideal.cmp .olt (max x (-x)) (Ideal.ofBits .f32 0x7F800000#32) = 1#1) :
    ∃ u : ℝ, x = (u : EReal) := by
  rw [top_eq] at h
  have hlt : max x (-x) < ⊤ := by
    by_contra hn
    simp [Ideal.cmp, hn] at h
  have h1 : x ≠ ⊤ := ((le_max_left _ _).trans_lt hlt).ne
  have h2 : x ≠ ⊥ := fun e => ((le_max_right _ _).trans_lt hlt).ne (by rw [e, EReal.neg_bot])
  exact ⟨x.toReal, (EReal.coe_toReal h1 h2).symm⟩

/-- Where the precondition holds, the first plane is finite. -/
theorem first_plane (g : S256x256x256.Idx → EReal) (h : Cert.Pre_first_plane_finite.fn (F := Ideal) g = fun _ => 1#1) (j k : ℕ)
    (hj : j < 256) (hk : k < 256) : ∃ u : ℝ, at3 g 0 j k = (u : EReal) := by
  have hy := congrFun h (ValueIdx.ix3 ⟨0, Nat.one_pos⟩ ⟨j, hj⟩ ⟨k, hk⟩)
  unfold Cert.Pre_first_plane_finite.fn at hy
  have e := slice_at3 ![0, 0, 0] g plane_slices (ValueIdx.ix3 ⟨0, Nat.one_pos⟩ ⟨j, hj⟩ ⟨k, hk⟩)
  rw [show at3 g 0 j k = extractStridedSlice S1x256x256 ![0, 0, 0] g plane_slices (ValueIdx.ix3 ⟨0, Nat.one_pos⟩ ⟨j, hj⟩ ⟨k, hk⟩)
    from Eq.symm (e.trans (by congr 1 <;> exact Nat.zero_add _))]
  exact real_of_abs_lt _ hy

end Cert.Finite

end
-- ==== Proof.lean ====
/- The claims about the gradient kernel: it and the reference run and leave their argument unchanged, and over the extended reals
   they end with the same result wherever the grid's first plane is finite. The kernel's run is Proof/Run.lean, the reference's
   value Proof/RefValue.lean, the equation Proof/Algebra.lean, the precondition Proof/Finite.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Run
public import proofs.«01_k».proof.Proof.RefValue
public import proofs.«01_k».proof.Proof.Algebra
public import proofs.«01_k».proof.Proof.Finite
public import Idealize.ShloMosaic.Adequacy
public import Idealize.ShloMosaic.Init

@[expose] public section

noncomputable section

namespace Cert.Proof

open Idealize.ShloMosaic Idealize.SL.Sem

/-- The reference's frame: its argument ends unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is the reference's, wherever the grid's first plane is finite. -/
theorem value : Cert.algebraic_KernelIdeal_ReferenceIdeal_pre_first_plane_finite := by
  intro m ρ m' ρ' hpre hagree
  refine ⟨fun c => Cert.Spec.whole (Cert.KernelIdeal.Grad.grid m c), Cert.KernelIdeal.Grad.run m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v87_eq m' c).trans (funext fun y => ?_)
  refine (congrArg (fun g => Cert.ReferenceIdeal.Read.val_main_v87 (F := Ideal) g y) (hagree c)).trans ?_
  refine (Cert.Target.value_at (Cert.KernelIdeal.Grad.grid m c) y).trans (Eq.symm ?_)
  exact Cert.Algebra.wholeAt_eq (Cert.KernelIdeal.Grad.grid m c) (Cert.Finite.first_plane _ (hpre c)) _ _ _ _ (y 1).isLt (y 2).isLt
    (y 3).isLt

/-- Every claim. -/
theorem claim : Cert.Claim :=
  ⟨Cert.Kernel.Gen.facts, Cert.KernelIdeal.Gen.facts, Cert.ReferenceIdeal.Gen.facts, Cert.Finite.facts,
    fun m ρ _ => Cert.Kernel.Grad.frame m ρ,
    fun m ρ _ => Cert.KernelIdeal.Grad.frame m ρ,
    fun m ρ _ => Cert.KernelIdeal.Grad.frame m ρ,
    frame_reference,
    fun m ρ _ => frame_reference m ρ trivial,
    trivial,
    value⟩

end Cert.Proof

end
